-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S8x6x16384 : Shape := ⟨3, ![8, 6, 16384]⟩
abbrev S6x256 : Shape := ⟨2, ![6, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S8x6x16384 : S_.BroadcastsInDim S8x6x16384 (![] : Fin 0 → Fin S8x6x16384.rank)
  reducesTo_S8x6x16384_S_d0_1_2 : S8x6x16384.ReducesTo [0, 1, 2] S_
  h_S_ : 0 < S_.numel
  bcast_S_S6x256 : S_.BroadcastsInDim S6x256 (![] : Fin 0 → Fin S6x256.rank)
  reducesTo_S6x256_S_d0_1 : S6x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S256x1 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8x6x16384 .f32) (main_arg1 : FVec F S8x6x16384 .f32) (main_arg2 : FVec F S6x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S8x6x16384 .f32 := Host.absf main_arg0
  let main_cst : FVec F S_ .f32 := constant S_ .f32 0x7F800000#32
  let main_v1 : FVec F S8x6x16384 .f32 := broadcastInDim S8x6x16384 ![] bcast_S_S8x6x16384 main_cst
  let main_v2 : IVec S8x6x16384 1 := cmpf .olt main_v0 main_v1
  let main_c : IVec S_ 1 := constantI S_ 1 1#1
  let main_v3 : IVec S_ 1 := (fun x v => Host.reduce IntOp.andi x v reducesTo_S8x6x16384_S_d0_1_2 h_S_) main_v2 main_c
  let main_v4 : FVec F S6x256 .f32 := Host.absf main_arg2
  let main_cst_0 : FVec F S_ .f32 := constant S_ .f32 0x7F800000#32
  let main_v5 : FVec F S6x256 .f32 := broadcastInDim S6x256 ![] bcast_S_S6x256 main_cst_0
  let main_v6 : IVec S6x256 1 := cmpf .olt main_v4 main_v5
  let main_c_1 : IVec S_ 1 := constantI S_ 1 1#1
  let main_v7 : IVec S_ 1 := (fun x v => Host.reduce IntOp.andi x v reducesTo_S6x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== KernelIdeal.lean ====
abbrev S8x6x16384 : Shape := ⟨3, ![8, 6, 16384]⟩
abbrev S6x256 : Shape := ⟨2, ![6, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x6 : Shape := ⟨2, ![256, 6]⟩
abbrev S1x256 : Shape := ⟨2, ![1, 256]⟩
abbrev S2x128 : Shape := ⟨2, ![2, 128]⟩
abbrev S16384x128 : Shape := ⟨2, ![16384, 128]⟩
abbrev S8x6x2048 : Shape := ⟨3, ![8, 6, 2048]⟩
abbrev S2048x128 : Shape := ⟨2, ![2048, 128]⟩
abbrev S64x1x256 : Shape := ⟨3, ![64, 1, 256]⟩
abbrev S1x64 : Shape := ⟨2, ![1, 64]⟩
abbrev S1x2048 : Shape := ⟨2, ![1, 2048]⟩
abbrev S1x6x2048 : Shape := ⟨3, ![1, 6, 2048]⟩
abbrev S6x2048 : Shape := ⟨2, ![6, 2048]⟩
abbrev S256x2048 : Shape := ⟨2, ![256, 2048]⟩
abbrev S48x2048 : Shape := ⟨2, ![48, 2048]⟩
abbrev S2048x48 : Shape := ⟨2, ![2048, 48]⟩
abbrev S2048x80 : Shape := ⟨2, ![2048, 80]⟩
abbrev S1x1x256 : Shape := ⟨3, ![1, 1, 256]⟩
abbrev S1x1x1 : Shape := ⟨3, ![1, 1, 1]⟩
abbrev S1x1x64 : Shape := ⟨3, ![1, 1, 64]⟩
abbrev S256x128 : Shape := ⟨2, ![256, 128]⟩
abbrev S8 : Shape := ⟨1, ![8]⟩
abbrev S8x128 : Shape := ⟨2, ![8, 128]⟩
abbrev S_ : Shape := ⟨0, ![]⟩
abbrev S256x48 : Shape := ⟨2, ![256, 48]⟩
abbrev S256x8x6 : Shape := ⟨3, ![256, 8, 6]⟩
abbrev S8x256x6 : Shape := ⟨3, ![8, 256, 6]⟩

abbrev nBuf : Table → Nat
  | .hbm => 20
  | .local .tc .vmem => 12
  | .local .scVector .vmem => 2
  | _ => 0

abbrev bufTy : (tb : Table) → Fin (nBuf tb) → BufTy
  | .hbm, ⟨0, _⟩ => ⟨S8x6x16384, .f32⟩
  | .hbm, ⟨1, _⟩ => ⟨S8x6x16384, .f32⟩
  | .hbm, ⟨2, _⟩ => ⟨S6x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S256x6, .f32⟩
  | .hbm, ⟨9, _⟩ => ⟨S256x256, .f32⟩
  | .hbm, ⟨10, _⟩ => ⟨S1x256, .f32⟩
  | .hbm, ⟨11, _⟩ => ⟨S256x1, .f32⟩
  | .hbm, ⟨12, _⟩ => ⟨S256x1, .f32⟩
  | .hbm, ⟨13, _⟩ => ⟨S2x128, .i32⟩
  | .hbm, ⟨14, _⟩ => ⟨S16384x128, .f32⟩
  | .hbm, ⟨15, _⟩ => ⟨S256, .i32⟩
  | .hbm, ⟨16, _⟩ => ⟨S256x128, .f32⟩
  | .hbm, ⟨17, _⟩ => ⟨S256x48, .f32⟩
  | .hbm, ⟨18, _⟩ => ⟨S256x8x6, .f32⟩
  | .hbm, ⟨19, _⟩ => ⟨S8x256x6, .f32⟩
  | .local .tc .vmem, ⟨0, _⟩ => ⟨S8x6x2048, .f32⟩
  | .local .tc .vmem, ⟨1, _⟩ => ⟨S8x6x2048, .f32⟩
  | .local .tc .vmem, ⟨2, _⟩ => ⟨S256x6, .f32⟩
  | .local .tc .vmem, ⟨3, _⟩ => ⟨S256x1, .f32⟩
  | .local .tc .vmem, ⟨4, _⟩ => ⟨S256x256, .f32⟩
  | .local .tc .vmem, ⟨5, _⟩ => ⟨S256x1, .f32⟩
  | .local .tc .vmem, ⟨6, _⟩ => ⟨S1x256, .f32⟩
  | .local .tc .vmem, ⟨7, _⟩ => ⟨S2x128, .i32⟩
  | .local .tc .vmem, ⟨8, _⟩ => ⟨S2048x128, .f32⟩
  | .local .tc .vmem, ⟨9, _⟩ => ⟨S2048x128, .f32⟩
  | .local .tc .vmem, ⟨10, _⟩ => ⟨S64x1x256, .f32⟩
  | .local .tc .vmem, ⟨11, _⟩ => ⟨S1x64, .f32⟩
  | .local .scVector .vmem, ⟨0, _⟩ => ⟨S8, .i32⟩
  | .local .scVector .vmem, ⟨1, _⟩ => ⟨S8x128, .f32⟩
  | _, _ => ⟨S8x6x16384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v5_1_scv : Ref sig .scVector := ⟨.hbm, 14, rfl⟩
abbrev main_v6_scv : Ref sig .scVector := ⟨.hbm, 15, rfl⟩
abbrev main_v7_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 3 → Nat :=
  let arg0 : BitVec 32 := BitVec.ofNat 32 (i 0).val
  let c8_i32 : BitVec 32 := 8#32
  let v132 : BitVec 32 := Scalar.muli arg0 c8_i32
  let v133 : BitVec 32 := Scalar.addi v132 c0_i32
  let v134 : Index := Scalar.indexCast v133
  let c0_74 : Index := 0#32
  let c0_75 : Index := 0#32
  ![v134.toNat, 0, 0]
def k0_cond1 (i : grid0.Coords) : BitVec 1 :=
  let arg0 : BitVec 32 := BitVec.ofNat 32 (i 0).val
  let c7_i32_123 : BitVec 32 := 7#32
  let v270 : BitVec 1 := Scalar.cmpi .eq arg0 c7_i32_123
  let v271 : BitVec 32 := Scalar.extui v270
  let c0_i32_124 : BitVec 32 := 0#32
  let v272 : BitVec 1 := Scalar.cmpi .ne v271 c0_i32_124
  v272

@[reducible] def k0_t1_loop : Scf.Loop 32 :=
  let c0_i32_128 : BitVec 32 := 0#32
  let c256_i32 : BitVec 32 := 256#32
  let v281 : BitVec 32 := Scalar.addi c0_i32_128 c256_i32
  let c1_i32_129 : BitVec 32 := 1#32
  ⟨c0_i32_128, v281, c1_i32_129⟩
def k0_off2 (v295 : BitVec 32) : Fin 3 → Nat :=
  let v296 : Index := Scalar.indexCast v295
  let c0_135 : Index := 0#32
  let c0_136 : Index := 0#32
  ![v296.toNat, 0, 0]

def k0_chk1 (i : grid0.Coords) (v295 : BitVec 32) : Prop :=
  (∀ (k0_h1 : k0_cond1 i = 1#1), ∀ a, (k0_off2 v295) a + S1x1x256.size a ≤ S64x1x256.size a)
theorem k0_off2_inb : ∀ (i : grid0.Coords) (v295 : BitVec 32) (k0_hw1 : k0_chk1 i v295), ∀ (k0_h1 : k0_cond1 i = 1#1), ∀ a, (k0_off2 v295) a + S1x1x256.size a ≤ S64x1x256.size a := fun i v295 k0_hw1 k0_h1 => k0_hw1 k0_h1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x6x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x6x16384 : Shape := ⟨3, ![8, 6, 16384]⟩
abbrev S6x256 : Shape := ⟨2, ![6, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S8x16384x6 : Shape := ⟨3, ![8, 16384, 6]⟩
abbrev S8x16384x256 : Shape := ⟨3, ![8, 16384, 256]⟩
abbrev S1x1x256 : Shape := ⟨3, ![1, 1, 256]⟩
abbrev S_ : Shape := ⟨0, ![]⟩
abbrev S8x16384x1 : Shape := ⟨3, ![8, 16384, 1]⟩
abbrev S1x1x1 : Shape := ⟨3, ![1, 1, 1]⟩
abbrev S8x16384 : Shape := ⟨2, ![8, 16384]⟩
abbrev S16384 : Shape := ⟨1, ![16384]⟩
abbrev S8x6x256 : Shape := ⟨3, ![8, 6, 256]⟩
abbrev S8x256x6 : Shape := ⟨3, ![8, 256, 6]⟩

abbrev nBuf : Space → Nat
  | .hbm => 45
  | .vmem => 0
  | .smem => 0
  | _ => 0

abbrev bufTy : (tb : Table) → Fin (tcTables nBuf tb) → BufTy
  | .hbm, ⟨0, _⟩ => ⟨S8x6x16384, .f32⟩
  | .hbm, ⟨1, _⟩ => ⟨S8x6x16384, .f32⟩
  | .hbm, ⟨2, _⟩ => ⟨S6x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S8x16384x6, .f32⟩
  | .hbm, ⟨9, _⟩ => ⟨S8x16384x256, .f32⟩
  | .hbm, ⟨10, _⟩ => ⟨S1x1x256, .f32⟩
  | .hbm, ⟨11, _⟩ => ⟨S8x16384x256, .f32⟩
  | .hbm, ⟨12, _⟩ => ⟨S8x16384x256, .f32⟩
  | .hbm, ⟨13, _⟩ => ⟨S_, .f32⟩
  | .hbm, ⟨14, _⟩ => ⟨S8x16384x256, .f32⟩
  | .hbm, ⟨15, _⟩ => ⟨S8x16384x256, .f32⟩
  | .hbm, ⟨16, _⟩ => ⟨S8x16384x256, .f32⟩
  | .hbm, ⟨17, _⟩ => ⟨S1x1x256, .f32⟩
  | .hbm, ⟨18, _⟩ => ⟨S8x16384x256, .f32⟩
  | .hbm, ⟨19, _⟩ => ⟨S8x16384x256, .f32⟩
  | .hbm, ⟨20, _⟩ => ⟨S_, .f32⟩
  | .hbm, ⟨21, _⟩ => ⟨S8x16384x256, .f32⟩
  | .hbm, ⟨22, _⟩ => ⟨S8x16384x256, .f32⟩
  | .hbm, ⟨23, _⟩ => ⟨S8x16384x1, .f32⟩
  | .hbm, ⟨24, _⟩ => ⟨S1x1x1, .f32⟩
  | .hbm, ⟨25, _⟩ => ⟨S8x16384x1, .f32⟩
  | .hbm, ⟨26, _⟩ => ⟨S8x16384x1, .f32⟩
  | .hbm, ⟨27, _⟩ => ⟨S8x16384, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S256, .f32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S256x1, .i32⟩
  | .hbm, ⟨43, _⟩ => ⟨S8x6x256, .f32⟩
  | .hbm, ⟨44, _⟩ => ⟨S8x256x6, .f32⟩
  | _, _ => ⟨S8x6x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_values : Ref sig .tc := ⟨.hbm, 33, rfl⟩
abbrev main_indices : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Setup.lean ====
/-
  The program as the launch theorem for SparseCore programs sees it: its label table, its calls, the resource
  algebra of the proof (the launch handshakes' rounds, the pipeline's rounds, the transfers' counters), and the
  locations of the arrays @main names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise.Index
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The label table below the SparseCore calls: the kernels' bodies and the pipeline's own labels. -/
abbrev ΛP : Labels := Pipeline.Sig Λ₀ (Fin 1) fun p => (pcfgs (F := F) p).Adm
/-- The program's SparseCore calls. -/
abbrev K : SparseCore.Cfg τ sig (ΛP (F := F)) 1 := sc (F := F)
/-- The definitions below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The launch handshakes' component. -/
abbrev UH : Type := URounds (GSem nD τ sig) ℕ
/-- The pipeline's component. -/
abbrev UP : Type := URounds (GSem nD τ sig) Unit
/-- The proof's ghost state: handshakes, pipeline, transfers. -/
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-- The TensorCore's place for the array `b` of @main on device `d`. -/
abbrev locOf (d : Dev nD) (b : Ref sig .tc) : Loc nD τ sig := (SparseCore.T d).loc b

end Cert.Proof.KI

end
-- ==== Proof.Select.lean ====
/-
  Selection by repeated maximum, without any program: the first index at which a finite function is largest, the
  sequence that takes that index and lowers the function there, and the two-level search (a block of the largest block
  maximum, then a place in that block) that finds it.
-/
module

public import Idealize.ShloMosaic.PureOps.Ideal
public import Idealize.ShloMosaic.PureOps.Ideal.Laws
public import Idealize.ShloMosaic.Lib.Pointwise

@[expose] public section

noncomputable section

namespace Cert.Proof.KI

open Idealize.ShloMosaic

/-- `n` is the first index at which `f` is largest. -/
def IsFirstMax {N : ℕ} (f : Fin N → EReal) (n : Fin N) : Prop := (∀ j, f j ≤ f n) ∧ ∀ j, j < n → f j < f n

theorem IsFirstMax.eq {N : ℕ} {f : Fin N → EReal} {n n' : Fin N} (h : IsFirstMax f n) (h' : IsFirstMax f n') : n = n' := by
  rcases lt_trichotomy n n' with hlt | heq | hgt
  · exact absurd (h.1 n') (not_le.2 (h'.2 n hlt))
  · exact heq
  · exact absurd (h'.1 n) (not_le.2 (h.2 n' hgt))

/-- A predicate on a finite range that holds somewhere holds first somewhere. -/
theorem exists_first {N : ℕ} (P : Fin N → Prop) (h : ∃ i, P i) : ∃ i, P i ∧ ∀ j, j < i → ¬ P j := by
  classical
  have hne : {i | P i}.Nonempty := h
  refine ⟨(wellFounded_lt : WellFounded (α := Fin N) (· < ·)).min {i | P i} hne, WellFounded.min_mem _ _ _, fun j hj hP => ?_⟩
  exact WellFounded.not_lt_min (wellFounded_lt : WellFounded (α := Fin N) (· < ·)) {i | P i} hP hj

theorem exists_isFirstMax {N : ℕ} [NeZero N] (f : Fin N → EReal) : ∃ n, IsFirstMax f n := by
  obtain ⟨m, -, hm⟩ := Finset.exists_max_image (Finset.univ : Finset (Fin N)) f ⟨0, Finset.mem_univ _⟩
  obtain ⟨n, hn, hlt⟩ := exists_first (fun i => ∀ j, f j ≤ f i) ⟨m, fun j => hm j (Finset.mem_univ _)⟩
  refine ⟨n, hn, fun j hj => ?_⟩
  obtain ⟨k, hk⟩ := not_forall.1 (hlt j hj)
  exact lt_of_lt_of_le (not_le.1 hk) (hn k)

/-- The first index at which `f` is largest. -/
def firstMax {N : ℕ} [NeZero N] (f : Fin N → EReal) : Fin N := Classical.choose (exists_isFirstMax f)

theorem firstMax_spec {N : ℕ} [NeZero N] (f : Fin N → EReal) : IsFirstMax f (firstMax f) :=
  Classical.choose_spec (exists_isFirstMax f)

/-- The scores after `k` selections: the selected ones are lowered to the least element. -/
def masked (s : Fin 16384 → EReal) : ℕ → Fin 16384 → EReal
  | 0 => s
  | k + 1 => Function.update (masked s k) (firstMax (masked s k)) ⊥

/-- The `k`-th selected index. -/
def sel (s : Fin 16384 → EReal) (k : ℕ) : Fin 16384 := firstMax (masked s k)

theorem masked_succ (s : Fin 16384 → EReal) (k : ℕ) : masked s (k + 1) = Function.update (masked s k) (sel s k) ⊥ := rfl

/-! ### Folds -/

theorem fold_max_le {ι : Type} [Fintype ι] (f : ι → EReal) (i : ι) : f i ≤ Finset.univ.fold max ⊥ f :=
  (Finset.le_fold_max (s := Finset.univ) (f := f) (b := ⊥) (f i)).2 (.inr ⟨i, Finset.mem_univ _, le_rfl⟩)

theorem fold_max_attained {ι : Type} [Fintype ι] [Nonempty ι] (f : ι → EReal) : ∃ i, f i = Finset.univ.fold max ⊥ f := by
  rcases (Finset.le_fold_max (s := Finset.univ) (f := f) (b := ⊥) (Finset.univ.fold max ⊥ f)).1 le_rfl with h | ⟨i, -, h⟩
  · obtain ⟨i⟩ := ‹Nonempty ι›
    exact ⟨i, le_antisymm (fold_max_le f i) (h.trans bot_le)⟩
  · exact ⟨i, le_antisymm (fold_max_le f i) h⟩

theorem toInt_minsi {w : ℕ} (x y : BitVec w) : (IntOp.minsi x y).toInt = min x.toInt y.toInt := by
  unfold IntOp.minsi
  split
  · rename_i h
    rw [BitVec.slt_iff_toInt_lt] at h
    exact (min_eq_left h.le).symm
  · rename_i h
    rw [BitVec.slt_iff_toInt_lt] at h
    exact (min_eq_right (not_lt.1 h)).symm

theorem toInt_ofNat_small {n : ℕ} (h : n < 2 ^ 31) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]; omega

/-- The least index with a property, found by a signed minimum over the indices, the others counted as `N`. -/
theorem fold_minsi_first {N : ℕ} (hN : N < 2 ^ 31) {ι : Type} [Fintype ι] (e : ι → Fin N) (he : Function.Surjective e)
    (P : Fin N → Prop) [DecidablePred P] (n : Fin N)
    (hn : P n) (hlt : ∀ j, j < n → ¬ P j) [Std.Commutative (IntOp.minsi (w := 32))] [Std.Associative (IntOp.minsi (w := 32))] :
    Finset.univ.fold IntOp.minsi 2147483647#32
        (fun j : ι => if P (e j) then BitVec.ofNat 32 (e j) else BitVec.ofNat 32 N) = BitVec.ofNat 32 n := by
  apply BitVec.eq_of_toInt_eq
  rw [← Finset.fold_hom (op' := min) (m := BitVec.toInt) toInt_minsi, toInt_ofNat_small (n := n) (by omega)]
  apply le_antisymm
  · obtain ⟨j, hj⟩ := he n
    refine (Finset.fold_min_le _).2 (.inr ⟨j, Finset.mem_univ _, ?_⟩)
    rw [hj, if_pos hn, toInt_ofNat_small (by omega)]
  · refine (Finset.le_fold_min _).2 ⟨?_, fun j _ => ?_⟩
    · have : (2147483647#32).toInt = 2147483647 := by decide
      rw [this]; omega
    · split
      · rename_i hP
        rw [toInt_ofNat_small (n := e j) (by omega)]
        exact_mod_cast Fin.le_def.1 (not_lt.1 fun h => hlt _ h hP)
      · rw [toInt_ofNat_small (n := N) hN]; omega

/-! ### Two levels -/

/-- Place `p` of block `b`. -/
def gl (b : Fin 64) (p : Fin 256) : Fin 16384 := ⟨256 * b.val + p.val, by omega⟩

theorem gl_surj (n : Fin 16384) : n = gl ⟨n.val / 256, by omega⟩ ⟨n.val % 256, by omega⟩ := by
  apply Fin.ext; show n.val = 256 * (n.val / 256) + n.val % 256; omega

theorem gl_inj {b b' : Fin 64} {p p' : Fin 256} (h : gl b p = gl b' p') : b = b' ∧ p = p' := by
  have := congrArg Fin.val h
  simp only [gl] at this
  exact ⟨Fin.ext (by omega), Fin.ext (by omega)⟩

/-- The first block of the largest maximum and the first place in it of that value: the first index of the largest value. -/
theorem firstMax_of_blocks (S : Fin 16384 → EReal) (cm : Fin 64 → EReal) (m : EReal) (b0 : Fin 64) (p0 : Fin 256)
    (hle : ∀ b p, S (gl b p) ≤ cm b) (hatt : ∀ b, ∃ p, S (gl b p) = cm b) (hm : ∀ b, cm b ≤ m)
    (hb : cm b0 = m) (hb' : ∀ b, b < b0 → cm b ≠ m) (hp : S (gl b0 p0) = m) (hp' : ∀ p, p < p0 → S (gl b0 p) ≠ m) :
    gl b0 p0 = firstMax S := by
  refine IsFirstMax.eq ⟨fun j => ?_, fun j hj => ?_⟩ (firstMax_spec S)
  · rw [gl_surj j, hp]; exact (hle _ _).trans (hm _)
  · rw [hp]
    have hjm : S j ≤ m := by rw [gl_surj j]; exact (hle _ _).trans (hm _)
    refine lt_of_le_of_ne hjm fun hjeq => ?_
    rw [gl_surj j] at hjeq hj
    generalize (⟨j.val / 256, _⟩ : Fin 64) = b at hjeq hj
    generalize (⟨j.val % 256, _⟩ : Fin 256) = p at hjeq hj
    have hlt : 256 * b.val + p.val < 256 * b0.val + p0.val := hj
    rcases lt_trichotomy b b0 with hbb | rfl | hbb
    · exact hb' b hbb (le_antisymm (hm b) (hjeq ▸ hle b p))
    · exact hp' p (by rw [Fin.lt_def]; omega) hjeq
    · have := Fin.lt_def.1 hbb; omega

end Cert.Proof.KI
-- ==== Proof.Pays.lean ====
/-
  What one trip of the selection loop computes, at the extended reals: the largest block maximum, its first block, the
  first place in that block, and the three values the trip hands on.
-/
module

public import proofs.«01_k».proof.Proof.Gen.KernelIdeal.Skeleton
public import proofs.«01_k».proof.Proof.Select

@[expose] public section

noncomputable section

namespace Cert.Proof.KI

open Idealize.ShloMosaic Cert.KernelIdeal Cert.KernelIdeal.Gen

variable [Cert.KernelIdeal.Facts]

theorem ofBits_ninf : (Ideal.ofBits .f32 0xFF800000#32 : EReal) = ⊥ := by
  have h : BitVec.extractLsb' 31 1 4286578688#32 = 1#1 := by decide
  simp [Ideal.ofBits, Ideal.ieee, h]

theorem snd_surj {N : ℕ} : Function.Surjective (fun x : Fin 1 × Fin N => x.2) := fun p => ⟨(0, p), rfl⟩

/-- A row's maximum, as a kernel takes it. -/
theorem rowMax_spec (x : FVec Ideal S1x1x256 .f32) :
    (∀ p, x (ix3 0 0 p) ≤ extractAt ![0, 0, 0] (shapeCast S1x1x1
      (multiReduction .maximumf [1, 2] S1 x 0xFF800000#32 reduces_S1x1x256_S1 (.inl rfl) rfl) shapeCasts_S1_S1x1x1) inpos_S1x1x1_p0_0_0)
    ∧ ∃ p, x (ix3 0 0 p) = extractAt ![0, 0, 0] (shapeCast S1x1x1
      (multiReduction .maximumf [1, 2] S1 x 0xFF800000#32 reduces_S1x1x256_S1 (.inl rfl) rfl) shapeCasts_S1_S1x1x1) inpos_S1x1x1_p0_0_0 := by
  have h : extractAt ![0, 0, 0] (shapeCast S1x1x1
      (multiReduction .maximumf [1, 2] S1 x 0xFF800000#32 reduces_S1x1x256_S1 (.inl rfl) rfl) shapeCasts_S1_S1x1x1) inpos_S1x1x1_p0_0_0
      = Finset.univ.fold max ⊥ (fun q : Fin 1 × Fin 256 => x (ix3 0 q.1 q.2)) := by
    rw [← ofBits_ninf]; pointwise
  rw [h]
  refine ⟨fun p => ?_, ?_⟩
  · exact fold_max_le (fun q : Fin 1 × Fin 256 => x (ix3 0 q.1 q.2)) (0, p)
  · obtain ⟨q, hq⟩ := fold_max_attained (fun q : Fin 1 × Fin 256 => x (ix3 0 q.1 q.2))
    refine ⟨q.2, ?_⟩
    rw [← hq, Subsingleton.elim q.1 0]

/-- The state of the search: each stored row is its block of `S`, each block maximum the largest value of its block. -/
structure Sel (S : Fin 16384 → EReal) (f9 : FVec Ideal S64x1x256 .f32) (cm : FVec Ideal S1x64 .f32) : Prop where
  rows : ∀ b p, f9 (ix3 b 0 p) = S (gl b p)
  le : ∀ b p, S (gl b p) ≤ cm (ix2 0 b)
  att : ∀ b, ∃ p, S (gl b p) = cm (ix2 0 b)

/-- The block of an index, and its place in it. -/
def blk (g : Fin 16384) : Fin 64 := ⟨g.val / 256, by omega⟩
def plc (g : Fin 16384) : Fin 256 := ⟨g.val % 256, by omega⟩

theorem gl_blk_plc (g : Fin 16384) : gl (blk g) (plc g) = g := (gl_surj g).symm

theorem pay4_spec (cm : Vec Ideal S1x64 .f32) :
    (∀ b, cm (ix2 0 b) ≤ k0_pay4 (F := Ideal) cm) ∧ ∃ b, cm (ix2 0 b) = k0_pay4 (F := Ideal) cm := by
  have h : k0_pay4 (F := Ideal) cm = Finset.univ.fold max ⊥ (fun q : Fin 1 × Fin 64 => cm (ix2 0 q.2)) := by
    rw [← ofBits_ninf]; pointwise [k0_pay4]
  rw [h]
  refine ⟨fun b => fold_max_le (fun q : Fin 1 × Fin 64 => cm (ix2 0 q.2)) (0, b), ?_⟩
  obtain ⟨q, hq⟩ := fold_max_attained (fun q : Fin 1 × Fin 64 => cm (ix2 0 q.2))
  exact ⟨q.2, hq⟩

/-- What the search finds: the block's number, and the place's. -/
theorem found {S : Fin 16384 → EReal} {f9 : FVec Ideal S64x1x256 .f32} {cm : FVec Ideal S1x64 .f32} (hS : Sel S f9 cm) :
    cm (ix2 0 (blk (firstMax S))) = k0_pay4 (F := Ideal) cm ∧ (∀ b, b < blk (firstMax S) → cm (ix2 0 b) ≠ k0_pay4 (F := Ideal) cm)
      ∧ S (firstMax S) = k0_pay4 (F := Ideal) cm ∧ ∀ p, p < plc (firstMax S) → S (gl (blk (firstMax S)) p) ≠ k0_pay4 (F := Ideal) cm := by
  obtain ⟨hm, hatt⟩ := pay4_spec cm
  obtain ⟨b0, hb, hb'⟩ := exists_first (fun b => cm (ix2 0 b) = k0_pay4 (F := Ideal) cm) hatt
  obtain ⟨p0, hp, hp'⟩ := exists_first (fun p => S (gl b0 p) = k0_pay4 (F := Ideal) cm) (hb ▸ hS.att b0)
  have hg := firstMax_of_blocks S (fun b => cm (ix2 0 b)) (k0_pay4 (F := Ideal) cm) b0 p0 hS.le hS.att hm hb hb' hp hp'
  have e := (gl_blk_plc (firstMax S)).trans hg.symm
  obtain ⟨e1, e2⟩ := gl_inj e
  rw [e1, e2, ← hg]
  exact ⟨hb, hb', hp, hp'⟩

theorem pay5_eq {S : Fin 16384 → EReal} {f9 : FVec Ideal S64x1x256 .f32} {cm : FVec Ideal S1x64 .f32} (hS : Sel S f9 cm)
    (v129 : IVec S1x64 32) (hv : ∀ b : Fin 64, v129 (ix2 0 b) = BitVec.ofNat 32 b) :
    extractAt ![0, 0, 0] (k0_pay5 (F := Ideal) v129 cm) inpos_S1x1x1_p0_0_0 = BitVec.ofNat 32 (blk (firstMax S)) := by
  obtain ⟨hb, hb', -, -⟩ := found hS
  classical
  refine Eq.trans ?_ (fold_minsi_first (N := 64) (by norm_num) (fun x : Fin 1 × Fin 64 => x.2) snd_surj
    (fun b => cm (ix2 0 b) = k0_pay4 (F := Ideal) cm) (blk (firstMax S)) hb hb')
  pointwise [k0_pay5]
  refine Finset.fold_congr fun x _ => ?_
  rw [hv]

/-- The place's number, as the trip computes it from the block's row. -/
theorem place_eq {S : Fin 16384 → EReal} {f9 : FVec Ideal S64x1x256 .f32} {cm : FVec Ideal S1x64 .f32} (hS : Sel S f9 cm)
    (v273 : IVec S1x256 32) (hv : ∀ p : Fin 256, v273 (ix2 0 p) = BitVec.ofNat 32 p) (row : Vec Ideal S1x1x256 .f32)
    (hrow : ∀ p, row (ix3 0 0 p) = S (gl (blk (firstMax S)) p)) :
    (Finset.univ.fold IntOp.minsi 2147483647#32 fun x : Fin 1 × Fin 256 =>
      if row (ix3 0 x.1 x.2) = k0_pay4 (F := Ideal) cm then v273 (ix2 0 x.2) else 256#32) = BitVec.ofNat 32 (plc (firstMax S)) := by
  obtain ⟨-, -, hp, hp'⟩ := found hS
  classical
  refine Eq.trans ?_ (fold_minsi_first (N := 256) (by norm_num) (fun x : Fin 1 × Fin 256 => x.2) snd_surj
    (fun p => S (gl (blk (firstMax S)) p) = k0_pay4 (F := Ideal) cm) (plc (firstMax S)) (by rw [gl_blk_plc]; exact hp) hp')
  refine Finset.fold_congr fun x _ => ?_
  rw [hv, Subsingleton.elim x.1 0, hrow]

theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem select_eq {α : Type} (a b : BitVec 32) (x y : α) :
    Scalar.select (IntOp.cmpi .eq a b) x y = if a = b then x else y := by
  by_cases h : a = b
  · simp [IntOp.cmpi, Scalar.select, h]
  · have : (a == b) = false := by simpa using h
    simp [IntOp.cmpi, Scalar.select, h, this]

theorem pay8_eq {S : Fin 16384 → EReal} {f9 : FVec Ideal S64x1x256 .f32} {cm : FVec Ideal S1x64 .f32} (hS : Sel S f9 cm)
    (v273 : IVec S1x256 32) (hv : ∀ p : Fin 256, v273 (ix2 0 p) = BitVec.ofNat 32 p) (row : Vec Ideal S1x1x256 .f32)
    (hrow : ∀ p, row (ix3 0 0 p) = S (gl (blk (firstMax S)) p)) (p : Fin 256) :
    k0_pay8 (F := Ideal) v273 cm row (ix2 0 p) = Function.update S (firstMax S) ⊥ (gl (blk (firstMax S)) p) := by
  have hpl := place_eq hS v273 hv row hrow
  have h : k0_pay8 (F := Ideal) v273 cm row (ix2 0 p) = Scalar.select (IntOp.cmpi .eq (v273 (ix2 0 p)) (Finset.univ.fold IntOp.minsi 2147483647#32 fun x : Fin 1 × Fin 256 =>
      if row (ix3 0 x.1 x.2) = k0_pay4 (F := Ideal) cm then v273 (ix2 0 x.2) else 256#32)) ⊥ (row (ix3 0 0 p)) := by
    rw [← ofBits_ninf]; pointwise [k0_pay8, k0_pay6]
  rw [h, hpl, hv, hrow, select_eq]
  by_cases hpp : p = plc (firstMax S)
  · subst hpp
    rw [if_pos rfl, gl_blk_plc, Function.update_self]
  · rw [if_neg, Function.update_of_ne]
    · intro e
      rw [← gl_blk_plc (firstMax S)] at e
      rw [gl_blk_plc (firstMax S)] at e
      exact hpp (gl_inj (e.trans (gl_blk_plc _).symm)).2
    · rw [ofNat_eq_iff (by omega) (by omega)]
      exact fun e => hpp (Fin.ext e)

theorem pay9_eq {S : Fin 16384 → EReal} {f9 : FVec Ideal S64x1x256 .f32} {cm : FVec Ideal S1x64 .f32} (hS : Sel S f9 cm)
    (v273 : IVec S1x256 32) (hv : ∀ p : Fin 256, v273 (ix2 0 p) = BitVec.ofNat 32 p) (row : Vec Ideal S1x1x256 .f32)
    (hrow : ∀ p, row (ix3 0 0 p) = S (gl (blk (firstMax S)) p)) (p : Fin 256) :
    k0_pay9 (F := Ideal) v273 cm row (ix3 0 0 p) = Function.update S (firstMax S) ⊥ (gl (blk (firstMax S)) p) := by
  rw [← pay8_eq hS v273 hv row hrow p]
  pointwise [k0_pay9]

theorem pay10_def (v129 : IVec S1x64 32) (v273 : IVec S1x256 32) (cm : Vec Ideal S1x64 .f32) (row : Vec Ideal S1x1x256 .f32) :
    k0_pay10 (F := Ideal) v129 v273 cm row = select (cmpi .eq v129 (broadcast S1x64
        (extractAt ![0, 0, 0] (k0_pay5 (F := Ideal) v129 cm) inpos_S1x1x1_p0_0_0)))
      (broadcast S1x64 (extractAt ![0, 0, 0] (shapeCast S1x1x1
        (multiReduction .maximumf [1, 2] S1 (k0_pay9 (F := Ideal) v273 cm row) 0xFF800000#32 reduces_S1x1x256_S1 (.inl rfl) rfl)
          shapeCasts_S1_S1x1x1) inpos_S1x1x1_p0_0_0)) cm := by
  delta k0_pay10 k0_pay9
  rfl

/-- The search's next state. -/
theorem Sel.next {S : Fin 16384 → EReal} {f9 : FVec Ideal S64x1x256 .f32} {cm : FVec Ideal S1x64 .f32} (hS : Sel S f9 cm)
    (v129 : IVec S1x64 32) (hv129 : ∀ b : Fin 64, v129 (ix2 0 b) = BitVec.ofNat 32 b)
    (v273 : IVec S1x256 32) (hv : ∀ p : Fin 256, v273 (ix2 0 p) = BitVec.ofNat 32 p) (row : Vec Ideal S1x1x256 .f32)
    (hrow : ∀ p, row (ix3 0 0 p) = S (gl (blk (firstMax S)) p)) (f9' : FVec Ideal S64x1x256 .f32)
    (hf : ∀ b p, f9' (ix3 b 0 p) = if b = blk (firstMax S) then k0_pay9 (F := Ideal) v273 cm row (ix3 0 0 p) else f9 (ix3 b 0 p)) :
    Sel (Function.update S (firstMax S) ⊥) f9' (k0_pay10 (F := Ideal) v129 v273 cm row) := by
  have hother : ∀ b p, b ≠ blk (firstMax S) → Function.update S (firstMax S) ⊥ (gl b p) = S (gl b p) := fun b p hb => by
    rw [Function.update_of_ne]
    intro e
    exact hb (gl_inj (e.trans (gl_blk_plc _).symm)).1
  have hcm : ∀ b : Fin 64, k0_pay10 (F := Ideal) v129 v273 cm row (ix2 0 b)
      = if b = blk (firstMax S) then extractAt ![0, 0, 0] (shapeCast S1x1x1
        (multiReduction .maximumf [1, 2] S1 (k0_pay9 (F := Ideal) v273 cm row) 0xFF800000#32 reduces_S1x1x256_S1 (.inl rfl) rfl)
          shapeCasts_S1_S1x1x1) inpos_S1x1x1_p0_0_0 else cm (ix2 0 b) := fun b => by
    have h5 := pay5_eq hS v129 hv129
    rw [pay10_def]
    refine (select_eq _ _ _ _).trans ?_
    unfold broadcast
    rw [h5, hv129]
    by_cases hb : b = blk (firstMax S)
    · subst hb; rw [if_pos rfl, if_pos rfl]
    · rw [if_neg hb, if_neg]
      rw [ofNat_eq_iff (by omega) (by omega)]
      exact fun e => hb (Fin.ext e)
  obtain ⟨hmle, hmatt⟩ := rowMax_spec (k0_pay9 (F := Ideal) v273 cm row)
  refine ⟨fun b p => ?_, fun b p => ?_, fun b => ?_⟩
  · rw [hf]
    split
    · rename_i hb; rw [hb]; exact pay9_eq hS v273 hv row hrow p
    · rename_i hb; rw [hother b p hb]; exact hS.rows b p
  · rw [hcm]
    split
    · rename_i hb; rw [hb, ← pay9_eq hS v273 hv row hrow p]; exact hmle p
    · rename_i hb; rw [hother b p hb]; exact hS.le b p
  · rw [hcm]
    split
    · rename_i hb
      obtain ⟨p, hp⟩ := hmatt
      exact ⟨p, by rw [hb, ← pay9_eq hS v273 hv row hrow p]; exact hp⟩
    · rename_i hb
      obtain ⟨p, hp⟩ := hS.att b
      exact ⟨p, by rw [hother b p hb]; exact hp⟩

/-- The list of chosen indices after one more trip. -/
theorem pay7_eq {S : Fin 16384 → EReal} {f9 : FVec Ideal S64x1x256 .f32} {cm : FVec Ideal S1x64 .f32} (hS : Sel S f9 cm)
    (v129 : IVec S1x64 32) (hv129 : ∀ b : Fin 64, v129 (ix2 0 b) = BitVec.ofNat 32 b)
    (v273 : IVec S1x256 32) (hv : ∀ p : Fin 256, v273 (ix2 0 p) = BitVec.ofNat 32 p) (row : Vec Ideal S1x1x256 .f32)
    (hrow : ∀ p, row (ix3 0 0 p) = S (gl (blk (firstMax S)) p)) (k : Fin k0_t1_loop.trips) (out : IVec S2x128 32)
    (r : Fin 2) (c : Fin 128) :
    k0_pay7 (F := Ideal) v129 v273 k0_pay2 0#32 1#32 k cm out row (ix2 r c)
      = if 128 * r.val + c.val = k.val then BitVec.ofNat 32 (firstMax S) else out (ix2 r c) := by
  have hpl := place_eq hS v273 hv row hrow
  have h5 := pay5_eq hS v129 hv129
  have hk : k.val < 256 := k.isLt
  have h : k0_pay7 (F := Ideal) v129 v273 k0_pay2 0#32 1#32 k cm out row (ix2 r c)
      = Scalar.select (IntOp.cmpi .eq (k0_pay2 (ix2 r c)) (Scf.iv 0#32 1#32 k))
          (Scalar.addi (Scalar.muli (extractAt ![0, 0, 0] (k0_pay5 (F := Ideal) v129 cm) inpos_S1x1x1_p0_0_0) 256#32)
            (Finset.univ.fold IntOp.minsi 2147483647#32 fun x : Fin 1 × Fin 256 =>
              if row (ix3 0 x.1 x.2) = k0_pay4 (F := Ideal) cm then v273 (ix2 0 x.2) else 256#32)) (out (ix2 r c)) := by
    pointwise [k0_pay7, k0_pay6]
  have h2 : k0_pay2 (ix2 r c) = BitVec.ofNat 32 (128 * r.val + c.val) := by
    pointwise [k0_pay2]
    apply BitVec.eq_of_toNat_eq
    simp [IntOp.addi, IntOp.muli, BitVec.toNat_add, BitVec.toNat_mul]
    omega
  have hiv : Scf.iv 0#32 1#32 k = BitVec.ofNat 32 k.val := by
    apply BitVec.eq_of_toNat_eq
    simp [Scf.iv]
  rw [h, h5, hpl, h2, hiv, select_eq]
  have hv' : Scalar.addi (Scalar.muli (BitVec.ofNat 32 (blk (firstMax S))) 256#32) (BitVec.ofNat 32 (plc (firstMax S)))
      = BitVec.ofNat 32 (firstMax S) := by
    apply BitVec.eq_of_toNat_eq
    have := (firstMax S).isLt
    simp [Scalar.addi, Scalar.muli, IntOp.addi, IntOp.muli, BitVec.toNat_add, BitVec.toNat_mul, blk, plc]
    omega
  rw [hv']
  by_cases hrc : 128 * r.val + c.val = k.val
  · rw [if_pos hrc, if_pos (by rw [hrc])]
  · rw [if_neg hrc, if_neg]
    rw [ofNat_eq_iff (by omega) (by omega)]
    exact hrc

end Cert.Proof.KI
-- ==== Proof.LoopBody.lean ====
/-
  The selection loop's invariant: before trip `k` the stored rows and block maxima are those of the scores lowered at
  the first `k` choices, and the list carried holds those choices.
-/
module

public import proofs.«01_k».proof.Proof.Setup
public import proofs.«01_k».proof.Proof.Pays
public import proofs.«01_k».proof.Proof.Gen.KernelIdeal.Loops
public import Idealize.ShloMosaic.Lib.VecWindow
public import Idealize.ShloMosaic.Lib.WritesUnit

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

local notation "𝕄" => MT nD τ sig (HIx 1) (Elt Ideal) ℕ UU ℕ

variable [Cert.KernelIdeal.Facts]

abbrev iota64 : IVec S1x64 32 := iota .tc S1x64 32 [1] iota_S1x64_d1_w32
abbrev iota256 : IVec S1x256 32 := iota .tc S1x256 32 [1] iota_S1x256_d1_w32

theorem iota64_apply (b : Fin 64) : iota64 (ix2 0 b) = BitVec.ofNat 32 b := by
  unfold iota64; pointwise

theorem iota256_apply (p : Fin 256) : iota256 (ix2 0 p) = BitVec.ofNat 32 p := by
  unfold iota256; pointwise

/-- The scratch buffers' places. -/
abbrev s0Loc (c : Dev nD) : Loc nD τ sig := (c : Thread nD τ).loc cc0_scratch0
abbrev s1Loc (c : Dev nD) : Loc nD τ sig := (c : Thread nD τ).loc cc0_scratch1

/-- What is known before trip `k`. -/
structure LoopSt (s : Fin 16384 → EReal) (k : ℕ) (f9 : FVec Ideal S64x1x256 .f32)
    (acc : FVec Ideal S1x64 .f32 × IVec S2x128 32) : Prop where
  st : Sel (masked s k) f9 acc.1
  out : ∀ r c, acc.2 (ix2 r c) = if 128 * r.val + c.val < k then BitVec.ofNat 32 (sel s (128 * r.val + c.val)) else 0#32

/-- The search reads inside the stored rows. -/
theorem chk_of {s : Fin 16384 → EReal} {k : ℕ} {f9 : FVec Ideal S64x1x256 .f32} {acc : FVec Ideal S1x64 .f32 × IVec S2x128 32}
    (h : LoopSt s k f9 acc) (i : grid0.Coords) :
    k0_chk1 i (extractAt ![0, 0, 0] (k0_pay5 (F := Ideal) iota64 acc.1) inpos_S1x1x1_p0_0_0) := by
  rw [pay5_eq h.st iota64 iota64_apply]
  intro _ a
  have hb := (blk (firstMax (masked s k))).isLt
  have e : (BitVec.ofNat 32 (blk (firstMax (masked s k))).val).toNat = (blk (firstMax (masked s k))).val := by
    rw [BitVec.toNat_ofNat, Nat.mod_eq_of_lt (by omega)]
  fin_cases a
  · show (BitVec.ofNat 32 (blk (firstMax (masked s k))).val).toNat + 1 ≤ 64
    rw [e]; omega
  · show 0 + 1 ≤ 1; omega
  · show 0 + 256 ≤ 256; omega

/-- The block the search reads, as offsets. -/
theorem off2_eq (b : Fin 64) {w : BitVec 32} (hw : w = BitVec.ofNat 32 b) : k0_off2 w = ![b.val, 0, 0] := by
  subst hw
  show ![(BitVec.ofNat 32 b.val).toNat, 0, 0] = _
  rw [BitVec.toNat_ofNat, Nat.mod_eq_of_lt (by omega)]

/-- A stored block read back, place by place. -/
theorem row_read (v : View sig .tc .vmem S64x1x256 .f32) (f : v.ty.Contents (Elt Ideal)) (b : Fin 64) {off : Fin 3 → ℕ}
    (hoff : off = ![b.val, 0, 0]) (inb : ∀ a, off a + S1x1x256.size a ≤ S64x1x256.size a) (p : Fin 256) :
    v.readAt (Elt Ideal) (Rect.unit (s := S64x1x256) off S1x1x256.size inb).toLoadRect f (ix3 (n0 := 1) (n1 := 1) (n2 := 256) 0 0 p) = v.read (Elt Ideal) f (ix3 (n0 := 64) (n1 := 1) (n2 := 256) b 0 p) := by
  subst hoff
  rw [View.readAt_unit v f inb rfl inb]
  refine congrArg (v.read (Elt Ideal) f) (funext fun a => Fin.ext ?_)
  fin_cases a
  · show b.val + 0 = b.val; omega
  · show 0 + 0 = 0; omega
  · show 0 + 1 * p.val = p.val; omega

/-- A block stored over others, place by place. -/
theorem row_write (v : View sig .tc .vmem S64x1x256 .f32) (f : v.ty.Contents (Elt Ideal)) (b : Fin 64) {off : Fin 3 → ℕ}
    (hoff : off = ![b.val, 0, 0]) (inb : ∀ a, off a + S1x1x256.size a ≤ S64x1x256.size a) (x : FVec Ideal S1x1x256 .f32)
    (L : List (View.Piece (Elt Ideal) S64x1x256 .f32)) (b' : Fin 64) (p : Fin 256) :
    v.read (Elt Ideal) (v.writes (Elt Ideal) f (⟨Rect.unit (s := S64x1x256) off S1x1x256.size inb, x⟩ :: L)) (ix3 (n0 := 64) (n1 := 1) (n2 := 256) b' 0 p)
      = if b' = b then x (ix3 0 0 p) else v.read (Elt Ideal) (v.writes (Elt Ideal) f L) (ix3 (n0 := 64) (n1 := 1) (n2 := 256) b' 0 p) := by
  split
  · next h =>
    subst h
    refine View.read_writes_cons_unit_of_mem v f inb x L _ (ix3 (n0 := 1) (n1 := 1) (n2 := 256) 0 0 p) hoff fun a => ?_
    fin_cases a
    · show b'.val = b'.val + 0; omega
    · show 0 = 0 + 0; omega
    · show p.val = 0 + p.val; omega
  · next h =>
    refine View.read_writes_cons_unit_of_not_mem v f inb x L _ hoff 0 ?_
    show b'.val < b.val ∨ b.val + 1 ≤ b'.val
    have : b'.val ≠ b.val := fun e => h (Fin.ext e)
    omega

/-- One choice more: the block found is stored back with its place lowered, and the choice is listed. -/
theorem LoopSt.next {s : Fin 16384 → EReal} (k : Fin k0_t1_loop.trips) {f9 : FVec Ideal S64x1x256 .f32} {acc : FVec Ideal S1x64 .f32 × IVec S2x128 32}
    (h : LoopSt s k f9 acc) (row : FVec Ideal S1x1x256 .f32)
    (hrow : ∀ p, row (ix3 0 0 p) = f9 (ix3 (blk (firstMax (masked s k))) 0 p)) (f9' : FVec Ideal S64x1x256 .f32)
    (hf : ∀ b p, f9' (ix3 b 0 p) = if b = blk (firstMax (masked s k)) then k0_pay9 (F := Ideal) iota256 acc.1 row (ix3 0 0 p) else f9 (ix3 b 0 p)) :
    LoopSt s (k + 1) f9' (k0_pay10 (F := Ideal) iota64 iota256 acc.1 row, k0_pay7 (F := Ideal) iota64 iota256 k0_pay2 0#32 1#32 k acc.1 acc.2 row) := by
  have hr : ∀ p, row (ix3 0 0 p) = masked s k (gl (blk (firstMax (masked s k))) p) := fun p => (hrow p).trans (h.st.rows _ p)
  refine ⟨h.st.next iota64 iota64_apply iota256 iota256_apply row hr f9' hf, fun r c => ?_⟩
  refine (pay7_eq h.st iota64 iota64_apply iota256 iota256_apply row hr k acc.2 r c).trans ?_
  rw [h.out r c]
  by_cases e : 128 * r.val + c.val = k.val
  · rw [if_pos e, if_pos (by omega), e]; rfl
  · rw [if_neg e]
    by_cases l : 128 * r.val + c.val < k.val
    · rw [if_pos l, if_pos (by omega)]
    · rw [if_neg l, if_neg (by omega)]

/-- The word of the block found. -/
abbrev bWord (cm : FVec Ideal S1x64 .f32) : BitVec 32 := extractAt ![0, 0, 0] (k0_pay5 (F := Ideal) iota64 cm) inpos_S1x1x1_p0_0_0

/-- The block found, read. -/
abbrev rowOf (f9 : FVec Ideal S64x1x256 .f32) (cm : FVec Ideal S1x64 .f32) (inb : ∀ a, k0_off2 (bWord cm) a + S1x1x256.size a ≤ S64x1x256.size a) : FVec Ideal S1x1x256 .f32 :=
  (Memref.whole cc0_scratch0 : Memref sig .tc .vmem S64x1x256 .f32).view.readAt (Elt Ideal) (Rect.unit (s := S64x1x256) (k0_off2 (bWord cm)) S1x1x256.size inb).toLoadRect f9

/-- The rows after the block found is stored back. -/
abbrev rowsNext (f9 : FVec Ideal S64x1x256 .f32) (cm : FVec Ideal S1x64 .f32) (inb : ∀ a, k0_off2 (bWord cm) a + S1x1x256.size a ≤ S64x1x256.size a) : FVec Ideal S64x1x256 .f32 :=
  (Memref.whole cc0_scratch0 : Memref sig .tc .vmem S64x1x256 .f32).view.writes (Elt Ideal) f9
    [⟨Rect.unit (s := S64x1x256) (k0_off2 (bWord cm)) S1x1x256.size inb, k0_pay9 (F := Ideal) iota256 cm (rowOf f9 cm inb)⟩]

theorem read0 (f : FVec Ideal S64x1x256 .f32) :
    (Memref.whole cc0_scratch0 : Memref sig .tc .vmem S64x1x256 .f32).view.read (Elt Ideal) f = f := rfl

/-- A trip's stores carry the invariant to the next trip. -/
theorem LoopSt.trip {s : Fin 16384 → EReal} (k : Fin k0_t1_loop.trips) {f9 : FVec Ideal S64x1x256 .f32} {acc : FVec Ideal S1x64 .f32 × IVec S2x128 32}
    (h : LoopSt s k f9 acc) (inb : ∀ a, k0_off2 (bWord acc.1) a + S1x1x256.size a ≤ S64x1x256.size a) :
    LoopSt s (k + 1) (rowsNext f9 acc.1 inb) (k0_pay10 (F := Ideal) iota64 iota256 acc.1 (rowOf f9 acc.1 inb),
      k0_pay7 (F := Ideal) iota64 iota256 k0_pay2 0#32 1#32 k acc.1 acc.2 (rowOf f9 acc.1 inb)) := by
  have hw := off2_eq (blk (firstMax (masked s k))) (pay5_eq h.st iota64 iota64_apply)
  refine h.next k _ (fun p => ?_) _ (fun b p => ?_)
  · exact (row_read (Memref.whole cc0_scratch0 : Memref sig .tc .vmem S64x1x256 .f32).view f9 _ hw inb p).trans (congrFun (read0 f9) _)
  · refine (congrFun (read0 (rowsNext f9 acc.1 inb)) _).symm.trans ?_
    refine (row_write (Memref.whole cc0_scratch0 : Memref sig .tc .vmem S64x1x256 .f32).view f9 _ hw inb
      (k0_pay9 (F := Ideal) iota256 acc.1 (rowOf f9 acc.1 inb)) [] b p).trans ?_
    rw [View.writes_nil]
    exact congrArg (ite _ _) (congrFun (read0 f9) _)

set_option maxHeartbeats 1000000 in
/-- The loop's invariant, for the scores `s`. -/
@[instance_reducible] noncomputable def loopInv (s : Fin 16384 → EReal) (c : Dev nD) (i : grid0.Coords) (arg1 : Memref sig .tc .vmem S8x6x2048 .f32) (harg1 : arg1.IsWhole)
    (arg2 : Memref sig .tc .vmem S256x6 .f32) (harg2 : arg2.IsWhole) (arg3 : Memref sig .tc .vmem S256x1 .f32) (harg3 : arg3.IsWhole)
    (arg4 : Memref sig .tc .vmem S256x256 .f32) (harg4 : arg4.IsWhole) (arg5 : Memref sig .tc .vmem S256x1 .f32) (harg5 : arg5.IsWhole)
    (arg6 : Memref sig .tc .vmem S1x256 .f32) (harg6 : arg6.IsWhole) (arg7 : Memref sig .tc .vmem S2x128 .i32) (harg7 : arg7.IsWhole)
    (arg8 : Memref sig .tc .vmem S2048x128 .f32) (harg8 : arg8.IsWhole) (h1 : k0_cond1 i = 1#1)
    (init : Vec Ideal S1x64 .f32 × IVec S2x128 32) :
    LoopInvTy_k0_t1 (F := Ideal) (HIx 1) ℕ UU ℕ 𝒱₀ c none Set.univ i arg1 harg1 arg2 harg2 arg3 harg3 arg4 harg4 arg5 harg5 arg6 harg6
      arg7 harg7 arg8 harg8 (Memref.whole cc0_scratch0) (Memref.isWhole_whole _) (Memref.whole cc0_scratch1) (Memref.isWhole_whole _)
      iota64 h1 iota256 init where
  inv k acc := iprop(∃ f9 : Buf (Elt Ideal) (s0Loc c), ⌜LoopSt s k f9 acc⌝ ∗ ((Memref.whole cc0_scratch0 : Memref sig .tc .vmem S64x1x256 .f32).view.loc (c : Thread nD τ) ↦{fullShare} f9))
  step k acc := by
    unfold k0_t1_body
    iintro ⟨%f9, %h, H9⟩
    have hchk := chk_of h i
    sl_exec!
    sl_step
    iexists rowsNext f9 acc.1 (hchk h1)
    isplitr
    · ipureintro
      delta loopInv.sl.r loopInv.sl.r_1
      exact h.trip k (hchk h1)
    · iexact H9

end Cert.Proof.KI

end
-- ==== Proof.Block.lean ====
/-
  One grid point's stores, place by place: the eight rows of scores it stores and the eight block maxima it lists.
-/
module

public import proofs.«01_k».proof.Proof.LoopBody

@[expose] public section

noncomputable section

namespace Cert.Proof.KI

open Cert.KernelIdeal Cert.KernelIdeal.Gen

open Idealize.ShloMosaic Idealize.ShloMosaic.TcCoe Idealize.ShloMosaic.Tactic

variable [Cert.KernelIdeal.Facts]

/-- A row's maximum. -/
def rmax (x : FVec Ideal S1x1x256 .f32) : Ideal .f32 :=
  extractAt ![0, 0, 0] (shapeCast S1x1x1
    (multiReduction .maximumf [1, 2] S1 x 0xFF800000#32 reduces_S1x1x256_S1 (.inl rfl) rfl) shapeCasts_S1_S1x1x1) inpos_S1x1x1_p0_0_0

/-- The list of maxima with block `8 arg0 + j`'s entry set. -/
def cmUpd (arg0 j : BitVec 32) (x : FVec Ideal S1x1x256 .f32) (prev : FVec Ideal S1x64 .f32) : FVec Ideal S1x64 .f32 :=
  select (cmpi .eq iota64 (broadcast S1x64 (Scalar.addi (Scalar.muli arg0 8#32) j))) (broadcast S1x64 (rmax x)) prev

theorem cmUpd_apply (t j : ℕ) (ht : t < 8) (hj : j < 8) (x : FVec Ideal S1x1x256 .f32) (prev : FVec Ideal S1x64 .f32) (b : Fin 64) :
    cmUpd (BitVec.ofNat 32 t) (BitVec.ofNat 32 j) x prev (ix2 0 b) = if b.val = 8 * t + j then rmax x else prev (ix2 0 b) := by
  refine (select_eq _ _ _ _).trans ?_
  have hw : Scalar.addi (Scalar.muli (BitVec.ofNat 32 t) 8#32) (BitVec.ofNat 32 j) = BitVec.ofNat 32 (8 * t + j) := by
    apply BitVec.eq_of_toNat_eq
    simp [Scalar.addi, Scalar.muli, IntOp.addi, IntOp.muli, BitVec.toNat_add, BitVec.toNat_mul]
    omega
  unfold broadcast
  rw [hw, iota64_apply]
  by_cases e : b.val = 8 * t + j
  · rw [if_pos e, if_pos (by rw [e])]
  · rw [if_neg e, if_neg (fun h => e ((ofNat_eq_iff (by omega) (by omega)).mp h))]

/-- The first row of a block of scores. -/
def row0 (v : FVec Ideal S1x2048 .f32) : FVec Ideal S1x1x256 .f32 :=
  shapeCast S1x1x256 (extractStridedSlice S1x256 ![0, 0] v slices_S1x2048_o0_0_S1x256) shapeCasts_S1x256_S1x1x256

/-- The list of maxima after one grid point. -/
def cmAll (arg0 : BitVec 32) (v : FVec Ideal S1x2048 .f32) (f10 : FVec Ideal S1x64 .f32) : FVec Ideal S1x64 .f32 :=
  cmUpd arg0 7#32 (k0_pay45 v) (cmUpd arg0 6#32 (k0_pay43 v) (cmUpd arg0 5#32 (k0_pay39 v) (cmUpd arg0 4#32 (k0_pay36 v)
    (cmUpd arg0 3#32 (k0_pay34 (k0_pay33 v)) (cmUpd arg0 2#32 (k0_pay31 v) (cmUpd arg0 1#32 (k0_pay29 v) (cmUpd arg0 0#32 (row0 v) f10)))))))

theorem cmAll_eq (arg0 : BitVec 32) (v : FVec Ideal S1x2048 .f32) (f10 : FVec Ideal S1x64 .f32) :
    k0_pay46 arg0 v iota64 (k0_pay37 arg0 v iota64 (k0_pay32 arg0 v iota64 f10 (k0_pay26 arg0) (broadcast S1x64 (rmax (row0 v)))) (k0_pay33 v))
      (k0_pay40 arg0 iota64) (k0_pay41 v) = cmAll arg0 v f10 := rfl

theorem row0_apply (v : FVec Ideal S1x2048 .f32) (p : Fin 256) : row0 v (ix3 0 0 p) = v (ix2 0 ⟨p, by omega⟩) := by pointwise [row0]
theorem row1_apply (v : FVec Ideal S1x2048 .f32) (p : Fin 256) : k0_pay29 v (ix3 0 0 p) = v (ix2 0 ⟨256 + p, by omega⟩) := by pointwise [k0_pay29, k0_pay28]
theorem row2_apply (v : FVec Ideal S1x2048 .f32) (p : Fin 256) : k0_pay31 v (ix3 0 0 p) = v (ix2 0 ⟨512 + p, by omega⟩) := by pointwise [k0_pay31, k0_pay30]
theorem row3_apply (v : FVec Ideal S1x2048 .f32) (p : Fin 256) : k0_pay34 (k0_pay33 v) (ix3 0 0 p) = v (ix2 0 ⟨768 + p, by omega⟩) := by pointwise [k0_pay34, k0_pay33]
theorem row4_apply (v : FVec Ideal S1x2048 .f32) (p : Fin 256) : k0_pay36 v (ix3 0 0 p) = v (ix2 0 ⟨1024 + p, by omega⟩) := by pointwise [k0_pay36, k0_pay35]
theorem row5_apply (v : FVec Ideal S1x2048 .f32) (p : Fin 256) : k0_pay39 v (ix3 0 0 p) = v (ix2 0 ⟨1280 + p, by omega⟩) := by pointwise [k0_pay39, k0_pay38]
theorem row6_apply (v : FVec Ideal S1x2048 .f32) (p : Fin 256) : k0_pay43 v (ix3 0 0 p) = v (ix2 0 ⟨1536 + p, by omega⟩) := by pointwise [k0_pay43, k0_pay42]
theorem row7_apply (v : FVec Ideal S1x2048 .f32) (p : Fin 256) : k0_pay45 v (ix3 0 0 p) = v (ix2 0 ⟨1792 + p, by omega⟩) := by pointwise [k0_pay45, k0_pay44]

/-- A block's eight rows. -/
def rowsOf (v : FVec Ideal S1x2048 .f32) : Fin 8 → FVec Ideal S1x1x256 .f32 :=
  ![row0 v, k0_pay29 v, k0_pay31 v, k0_pay34 (k0_pay33 v), k0_pay36 v, k0_pay39 v, k0_pay43 v, k0_pay45 v]

theorem rowsOf_apply (v : FVec Ideal S1x2048 .f32) (j : Fin 8) (p : Fin 256) :
    rowsOf v j (ix3 0 0 p) = v (ix2 0 ⟨256 * j + p, by omega⟩) := by
  fin_cases j
  · refine (row0_apply v p).trans (congrArg (fun q => v (ix2 0 q)) (Fin.ext ?_)); show p.val = 256 * 0 + p.val; omega
  · exact row1_apply v p
  · exact row2_apply v p
  · exact row3_apply v p
  · exact row4_apply v p
  · exact row5_apply v p
  · exact row6_apply v p
  · exact row7_apply v p

theorem cmAll_apply (t : ℕ) (ht : t < 8) (v : FVec Ideal S1x2048 .f32) (f10 : FVec Ideal S1x64 .f32) (b : Fin 64) :
    cmAll (BitVec.ofNat 32 t) v f10 (ix2 0 b) = if h : b.val / 8 = t then rmax (rowsOf v ⟨b.val % 8, by omega⟩) else f10 (ix2 0 b) := by
  unfold cmAll
  rw [cmUpd_apply t 7 ht (by omega), cmUpd_apply t 6 ht (by omega), cmUpd_apply t 5 ht (by omega), cmUpd_apply t 4 ht (by omega),
    cmUpd_apply t 3 ht (by omega), cmUpd_apply t 2 ht (by omega), cmUpd_apply t 1 ht (by omega), cmUpd_apply t 0 ht (by omega)]
  by_cases h : b.val / 8 = t
  · rw [dif_pos h]
    obtain ⟨j, hj⟩ : ∃ j : Fin 8, j = ⟨b.val % 8, by omega⟩ := ⟨_, rfl⟩
    have hjv : j.val = b.val % 8 := congrArg Fin.val hj
    rw [← hj]
    have hb : b.val = 8 * t + j.val := by omega
    rw [hb]
    fin_cases j <;> simp [rowsOf]
  · rw [dif_neg h, if_neg (by omega), if_neg (by omega), if_neg (by omega), if_neg (by omega), if_neg (by omega), if_neg (by omega),
      if_neg (by omega), if_neg (by omega)]

/-- The state of the search over the first `n` blocks. -/
structure SelUpTo (n : ℕ) (S : Fin 16384 → EReal) (f9 : FVec Ideal S64x1x256 .f32) (cm : FVec Ideal S1x64 .f32) : Prop where
  rows : ∀ b : Fin 64, b.val < n → ∀ p, f9 (ix3 b 0 p) = S (gl b p)
  le : ∀ b : Fin 64, b.val < n → ∀ p, S (gl b p) ≤ cm (ix2 0 b)
  att : ∀ b : Fin 64, b.val < n → ∃ p, S (gl b p) = cm (ix2 0 b)

theorem SelUpTo.sel {n : ℕ} {S : Fin 16384 → EReal} {f9 : FVec Ideal S64x1x256 .f32} {cm : FVec Ideal S1x64 .f32} (h : SelUpTo n S f9 cm)
    (hn : 64 ≤ n) : Sel S f9 cm :=
  ⟨fun b => h.rows b (by omega), fun b => h.le b (by omega), fun b => h.att b (by omega)⟩

theorem SelUpTo.zero (S : Fin 16384 → EReal) (f9 : FVec Ideal S64x1x256 .f32) (cm : FVec Ideal S1x64 .f32) : SelUpTo 0 S f9 cm :=
  ⟨fun b h => absurd h (by omega), fun b h => absurd h (by omega), fun b h => absurd h (by omega)⟩

/-- One grid point more. -/
theorem SelUpTo.step {t : ℕ} (ht : t < 8) {S : Fin 16384 → EReal} {f9 : FVec Ideal S64x1x256 .f32} {cm : FVec Ideal S1x64 .f32}
    (h : SelUpTo (8 * t) S f9 cm) (v : FVec Ideal S1x2048 .f32) (hv : ∀ q : Fin 2048, v (ix2 0 q) = S ⟨2048 * t + q, by omega⟩)
    (f9' : FVec Ideal S64x1x256 .f32)
    (hf : ∀ b p, f9' (ix3 b 0 p) = if h : b.val / 8 = t then rowsOf v ⟨b.val % 8, by omega⟩ (ix3 0 0 p) else f9 (ix3 b 0 p)) :
    SelUpTo (8 * (t + 1)) S f9' (cmAll (BitVec.ofNat 32 t) v cm) := by
  have hS : ∀ (b : Fin 64), b.val / 8 = t → ∀ p, rowsOf v ⟨b.val % 8, by omega⟩ (ix3 0 0 p) = S (gl b p) := fun b e p => by
    rw [rowsOf_apply, hv]
    refine congrArg S (Fin.ext ?_)
    show 2048 * t + (256 * (b.val % 8) + p.val) = 256 * b.val + p.val
    omega
  refine ⟨fun b hb p => ?_, fun b hb p => ?_, fun b hb => ?_⟩
  · rw [hf]
    by_cases e : b.val / 8 = t
    · rw [dif_pos e]; exact hS b e p
    · rw [dif_neg e]; exact h.rows b (by omega) p
  · rw [cmAll_apply t ht]
    by_cases e : b.val / 8 = t
    · rw [dif_pos e, ← hS b e p]; exact (rowMax_spec _).1 p
    · rw [dif_neg e]; exact h.le b (by omega) p
  · rw [cmAll_apply t ht]
    by_cases e : b.val / 8 = t
    · obtain ⟨p, hp⟩ := (rowMax_spec (rowsOf v ⟨b.val % 8, by omega⟩)).2
      exact ⟨p, by rw [dif_pos e, ← hS b e p]; exact hp⟩
    · rw [dif_neg e]; exact h.att b (by omega)

/-- The offsets of the block's rows. -/
theorem off1_eq (i : grid0.Coords) (j : ℕ) (hj : j < 8) : k0_off1 i (BitVec.ofNat 32 j) = ![8 * (i 0).val + j, 0, 0] := by
  have hi : (i 0).val < 8 := (i 0).isLt
  have hw : (Scalar.addi (Scalar.muli (BitVec.ofNat 32 (i 0).val) 8#32) (BitVec.ofNat 32 j)).toNat = 8 * (i 0).val + j := by
    simp [Scalar.addi, Scalar.muli, IntOp.addi, IntOp.muli, BitVec.toNat_add, BitVec.toNat_mul]
    omega
  show ![_, 0, 0] = _
  rw [← hw]; rfl

/-- The rows after the eight stores. -/
theorem rows_eight (vw : View sig .tc .vmem S64x1x256 .f32) (f : vw.ty.Contents (Elt Ideal)) (i : grid0.Coords) (v : FVec Ideal S1x2048 .f32)
    (i7 i6 i5 i4 i3 i2 i1 i0) (b : Fin 64) (p : Fin 256) :
    vw.read (Elt Ideal) (vw.writes (Elt Ideal) f
      [⟨Rect.unit (s := S64x1x256) (k0_off1 i 7#32) S1x1x256.size i7, k0_pay45 v⟩,
       ⟨Rect.unit (s := S64x1x256) (k0_off1 i 6#32) S1x1x256.size i6, k0_pay43 v⟩,
       ⟨Rect.unit (s := S64x1x256) (k0_off1 i 5#32) S1x1x256.size i5, k0_pay39 v⟩,
       ⟨Rect.unit (s := S64x1x256) (k0_off1 i 4#32) S1x1x256.size i4, k0_pay36 v⟩,
       ⟨Rect.unit (s := S64x1x256) (k0_off1 i 3#32) S1x1x256.size i3, k0_pay34 (k0_pay33 v)⟩,
       ⟨Rect.unit (s := S64x1x256) (k0_off1 i 2#32) S1x1x256.size i2, k0_pay31 v⟩,
       ⟨Rect.unit (s := S64x1x256) (k0_off1 i 1#32) S1x1x256.size i1, k0_pay29 v⟩,
       ⟨Rect.unit (s := S64x1x256) (k0_off1 i 0#32) S1x1x256.size i0, row0 v⟩]) (ix3 (n0 := 64) (n1 := 1) (n2 := 256) b 0 p)
      = if h : b.val / 8 = (i 0).val then rowsOf v ⟨b.val % 8, by omega⟩ (ix3 0 0 p) else vw.read (Elt Ideal) f (ix3 (n0 := 64) (n1 := 1) (n2 := 256) b 0 p) := by
  have hi : (i 0).val < 8 := (i 0).isLt
  have bb : ∀ j < 8, 8 * (i 0).val + j < 64 := fun j hj => by omega
  rw [row_write vw f ⟨_, bb 7 (by omega)⟩ (off1_eq i 7 (by omega)), row_write vw f ⟨_, bb 6 (by omega)⟩ (off1_eq i 6 (by omega)),
    row_write vw f ⟨_, bb 5 (by omega)⟩ (off1_eq i 5 (by omega)), row_write vw f ⟨_, bb 4 (by omega)⟩ (off1_eq i 4 (by omega)),
    row_write vw f ⟨_, bb 3 (by omega)⟩ (off1_eq i 3 (by omega)), row_write vw f ⟨_, bb 2 (by omega)⟩ (off1_eq i 2 (by omega)),
    row_write vw f ⟨_, bb 1 (by omega)⟩ (off1_eq i 1 (by omega)), row_write vw f ⟨_, bb 0 (by omega)⟩ (off1_eq i 0 (by omega)),
    View.writes_nil]
  simp only [Fin.ext_iff]
  by_cases h : b.val / 8 = (i 0).val
  · rw [dif_pos h]
    obtain ⟨j, hj⟩ : ∃ j : Fin 8, j = ⟨b.val % 8, by omega⟩ := ⟨_, rfl⟩
    have hjv : j.val = b.val % 8 := congrArg Fin.val hj
    rw [← hj]
    have hb : b.val = 8 * (i 0).val + j.val := by omega
    rw [hb]
    fin_cases j <;> simp [rowsOf]
  · rw [dif_neg h, if_neg (by omega), if_neg (by omega), if_neg (by omega), if_neg (by omega), if_neg (by omega), if_neg (by omega),
      if_neg (by omega), if_neg (by omega)]

end Cert.Proof.KI

end
-- ==== Proof.Body.lean ====
/-
  The kernel's body at one grid point.
-/
module

public import proofs.«01_k».proof.Proof.Block

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

local notation "𝕄" => MT nD τ sig (HIx 1) (Elt Ideal) ℕ UU ℕ

variable [Cert.KernelIdeal.Facts]

/-- A memref's buffer, whole, at contents `f`. -/
abbrev pt {sp : Space} {s : Shape} {e : EltTy} (c : Dev nD) (M : Memref sig .tc sp s e) (f : Buf (Elt Ideal) (M.view.loc (c : Thread nD τ))) : sProp 𝕄 :=
  M.view.loc (c : Thread nD τ) ↦{fullShare} f

abbrev Bf {sp : Space} {s : Shape} {e : EltTy} (c : Dev nD) (M : Memref sig .tc sp s e) := Buf (Elt Ideal) (M.view.loc (c : Thread nD τ))

abbrev M9 : Memref sig .tc .vmem S64x1x256 .f32 := Memref.whole cc0_scratch0
abbrev M10 : Memref sig .tc .vmem S1x64 .f32 := Memref.whole cc0_scratch1

theorem pay1_eq (x : FVec Ideal S1x64 .f32) : k0_pay1 x = x := by
  funext j
  obtain ⟨a, b, rfl⟩ : ∃ a b, j = ix2 a b := ⟨j 0, j 1, by funext k; fin_cases k <;> rfl⟩
  pointwise [k0_pay1]

/-- Contents forgotten but for a property. -/
theorem pt_forget {sp : Space} {s : Shape} {e : EltTy} (c : Dev nD) (M : Memref sig .tc sp s e) (P : Bf c M → Prop) (f : Bf c M) (h : P f) :
    pt c M f ⊢ iprop(∃ g : Bf c M, ⌜P g⌝ ∗ pt c M g) := by
  iintro H; iexists f; isplitr
  · ipureintro; exact h
  · iexact H

/-- A whole store, read back. -/
theorem read_whole {sp : Space} {s : Shape} {e : EltTy} (v : View sig .tc sp s e) (f : v.ty.Contents (Elt Ideal)) {off : Fin s.rank → ℕ}
    (inb : ∀ a, off a + s.size a ≤ s.size a) (x : s.Idx → Elt Ideal e) :
    v.read (Elt Ideal) (v.writes (Elt Ideal) f [⟨Rect.unit off s.size inb, x⟩]) = x := View.read_writes_full v f inb x []

/-- The selection loop's invariant, for the scores `s`. -/
abbrev loopI (s : Fin 16384 → EReal) (c : Dev nD) (k : ℕ) (acc : Vec Ideal S1x64 .f32 × IVec S2x128 32) : sProp 𝕄 :=
  iprop(∃ f9 : Buf (Elt Ideal) (s0Loc c), ⌜LoopSt s k f9 acc⌝ ∗ ((Memref.whole cc0_scratch0 : Memref sig .tc .vmem S64x1x256 .f32).view.loc (c : Thread nD τ) ↦{fullShare} f9))

/-- One batch's points of a block. -/
def bat (X : FVec Ideal S8x6x2048 .f32) (b : Fin 8) : FVec Ideal S1x6x2048 .f32 := fun j => X (ix3 (n0 := 8) (n1 := 6) (n2 := 2048) b (j 1) (j 2))

theorem bat_read {sp : Space} (v : View sig .tc sp S8x6x2048 .f32) (f : v.ty.Contents (Elt Ideal)) (b : Fin 8) {off : Fin 3 → ℕ}
    (hoff : off = ![b.val, 0, 0]) (inb : ∀ a, off a + S1x6x2048.size a ≤ S8x6x2048.size a) :
    v.readAt (Elt Ideal) (Rect.unit (s := S8x6x2048) off S1x6x2048.size inb).toLoadRect f = bat (v.read (Elt Ideal) f) b := by
  subst hoff
  rw [View.readAt_unit v f inb rfl inb]
  funext j
  refine congrArg (v.read (Elt Ideal) f) (funext fun a => Fin.ext ?_)
  have h0 : (j 0).val < 1 := (j 0).isLt
  fin_cases a
  · show b.val + 1 * (j 0).val = b.val; omega
  · show 0 + 1 * (j 1).val = (j 1).val; omega
  · show 0 + 1 * (j 2).val = (j 2).val; omega

/-- A block's scores, from the parameters and the batches' points. -/
def scoreL (w1 : FVec Ideal S256x6 .f32) (b1 : FVec Ideal S256x1 .f32) (w2 : FVec Ideal S256x256 .f32) (b2 : FVec Ideal S256x1 .f32)
    (w3 : FVec Ideal S1x256 .f32) (x : Fin 8 → FVec Ideal S1x6x2048 .f32) : FVec Ideal S1x2048 .f32 :=
  k0_pay22 (k0_pay11 w1) (k0_pay12 b1) (k0_pay13 w2) (k0_pay14 b2) (k0_pay15 w3)
    (k0_pay21 (k0_pay11 w1) (k0_pay12 b1) (k0_pay13 w2) (k0_pay14 b2) (k0_pay15 w3)
      (k0_pay19 (k0_pay11 w1) (k0_pay12 b1) (k0_pay13 w2) (k0_pay14 b2) (k0_pay15 w3)
        (k0_pay16 w1 b1 w2 b2 w3 (x 0)) (k0_pay17 w1 b1 w2 (x 1)) (k0_pay18 b2) (x 2) (x 3))
      (k0_pay20 (k0_pay11 w1) (k0_pay12 b1) (x 4)) (x 5) (x 6)) (x 7)

/-- A block's scores. -/
def scoreBlk (X1 : FVec Ideal S8x6x2048 .f32) (w1 : FVec Ideal S256x6 .f32) (b1 : FVec Ideal S256x1 .f32) (w2 : FVec Ideal S256x256 .f32)
    (b2 : FVec Ideal S256x1 .f32) (w3 : FVec Ideal S1x256 .f32) : FVec Ideal S1x2048 .f32 := scoreL w1 b1 w2 b2 w3 (bat X1)

/-- The same, from the loads a body makes. -/
def scoreLoads (M1 : Memref sig .tc .vmem S8x6x2048 .f32) (M2 : Memref sig .tc .vmem S256x6 .f32)
    (M3 : Memref sig .tc .vmem S256x1 .f32) (M4 : Memref sig .tc .vmem S256x256 .f32)
    (M5 : Memref sig .tc .vmem S256x1 .f32) (M6 : Memref sig .tc .vmem S1x256 .f32)
    (f1 : M1.view.ty.Contents (Elt Ideal)) (f2 : M2.view.ty.Contents (Elt Ideal)) (f3 : M3.view.ty.Contents (Elt Ideal))
    (f4 : M4.view.ty.Contents (Elt Ideal)) (f5 : M5.view.ty.Contents (Elt Ideal)) (f6 : M6.view.ty.Contents (Elt Ideal)) : FVec Ideal S1x2048 .f32 :=
  scoreL (M2.view.readAt (Elt Ideal) (Rect.unit (s := S256x6) ![0, 0] S256x6.size inb_S256x6_S256x6_0_0).toLoadRect f2)
    (M3.view.readAt (Elt Ideal) (Rect.unit (s := S256x1) ![0, 0] S256x1.size inb_S256x1_S256x1_0_0).toLoadRect f3)
    (M4.view.readAt (Elt Ideal) (Rect.unit (s := S256x256) ![0, 0] S256x256.size inb_S256x256_S256x256_0_0).toLoadRect f4)
    (M5.view.readAt (Elt Ideal) (Rect.unit (s := S256x1) ![0, 0] S256x1.size inb_S256x1_S256x1_0_0).toLoadRect f5)
    (M6.view.readAt (Elt Ideal) (Rect.unit (s := S1x256) ![0, 0] S1x256.size inb_S1x256_S1x256_0_0).toLoadRect f6)
    ![M1.view.readAt (Elt Ideal) (Rect.unit (s := S8x6x2048) ![0, 0, 0] S1x6x2048.size inb_S8x6x2048_S1x6x2048_0_0_0).toLoadRect f1,
      M1.view.readAt (Elt Ideal) (Rect.unit (s := S8x6x2048) ![1, 0, 0] S1x6x2048.size inb_S8x6x2048_S1x6x2048_1_0_0).toLoadRect f1,
      M1.view.readAt (Elt Ideal) (Rect.unit (s := S8x6x2048) ![2, 0, 0] S1x6x2048.size inb_S8x6x2048_S1x6x2048_2_0_0).toLoadRect f1,
      M1.view.readAt (Elt Ideal) (Rect.unit (s := S8x6x2048) ![3, 0, 0] S1x6x2048.size inb_S8x6x2048_S1x6x2048_3_0_0).toLoadRect f1,
      M1.view.readAt (Elt Ideal) (Rect.unit (s := S8x6x2048) ![4, 0, 0] S1x6x2048.size inb_S8x6x2048_S1x6x2048_4_0_0).toLoadRect f1,
      M1.view.readAt (Elt Ideal) (Rect.unit (s := S8x6x2048) ![5, 0, 0] S1x6x2048.size inb_S8x6x2048_S1x6x2048_5_0_0).toLoadRect f1,
      M1.view.readAt (Elt Ideal) (Rect.unit (s := S8x6x2048) ![6, 0, 0] S1x6x2048.size inb_S8x6x2048_S1x6x2048_6_0_0).toLoadRect f1,
      M1.view.readAt (Elt Ideal) (Rect.unit (s := S8x6x2048) ![7, 0, 0] S1x6x2048.size inb_S8x6x2048_S1x6x2048_7_0_0).toLoadRect f1]

theorem scoreLoads_eq (M1 : Memref sig .tc .vmem S8x6x2048 .f32) (M2 : Memref sig .tc .vmem S256x6 .f32)
    (M3 : Memref sig .tc .vmem S256x1 .f32) (M4 : Memref sig .tc .vmem S256x256 .f32)
    (M5 : Memref sig .tc .vmem S256x1 .f32) (M6 : Memref sig .tc .vmem S1x256 .f32)
    (f1 : M1.view.ty.Contents (Elt Ideal)) (f2 : M2.view.ty.Contents (Elt Ideal)) (f3 : M3.view.ty.Contents (Elt Ideal))
    (f4 : M4.view.ty.Contents (Elt Ideal)) (f5 : M5.view.ty.Contents (Elt Ideal)) (f6 : M6.view.ty.Contents (Elt Ideal)) :
    scoreLoads M1 M2 M3 M4 M5 M6 f1 f2 f3 f4 f5 f6 = scoreBlk (M1.view.read (Elt Ideal) f1) (M2.view.read (Elt Ideal) f2) (M3.view.read (Elt Ideal) f3)
      (M4.view.read (Elt Ideal) f4) (M5.view.read (Elt Ideal) f5) (M6.view.read (Elt Ideal) f6) := by
  unfold scoreLoads scoreBlk
  rw [View.readAt_full M2.view f2 inb_S256x6_S256x6_0_0, View.readAt_full M3.view f3 inb_S256x1_S256x1_0_0,
    View.readAt_full M4.view f4 inb_S256x256_S256x256_0_0, View.readAt_full M5.view f5 inb_S256x1_S256x1_0_0,
    View.readAt_full M6.view f6 inb_S1x256_S1x256_0_0]
  refine congrArg (scoreL _ _ _ _ _) (funext fun b => ?_)
  fin_cases b
  · exact bat_read M1.view f1 0 rfl _
  · exact bat_read M1.view f1 1 rfl _
  · exact bat_read M1.view f1 2 rfl _
  · exact bat_read M1.view f1 3 rfl _
  · exact bat_read M1.view f1 4 rfl _
  · exact bat_read M1.view f1 5 rfl _
  · exact bat_read M1.view f1 6 rfl _
  · exact bat_read M1.view f1 7 rfl _

set_option maxHeartbeats 1000000 in
theorem body_mid (c : Dev nD) (i : grid0.Coords) (hc : ¬ k0_cond1 i = 1#1)
    (M1 : Memref sig .tc .vmem S8x6x2048 .f32) (h1 : M1.IsWhole) (M2 : Memref sig .tc .vmem S256x6 .f32) (h2 : M2.IsWhole)
    (M3 : Memref sig .tc .vmem S256x1 .f32) (h3 : M3.IsWhole) (M4 : Memref sig .tc .vmem S256x256 .f32) (h4 : M4.IsWhole)
    (M5 : Memref sig .tc .vmem S256x1 .f32) (h5 : M5.IsWhole) (M6 : Memref sig .tc .vmem S1x256 .f32) (h6 : M6.IsWhole)
    (M7 : Memref sig .tc .vmem S2x128 .i32) (h7 : M7.IsWhole) (M8 : Memref sig .tc .vmem S2048x128 .f32) (h8 : M8.IsWhole)
    (f1 : Bf c M1) (f2 : Bf c M2) (f3 : Bf c M3) (f4 : Bf c M4) (f5 : Bf c M5) (f6 : Bf c M6) (f8 : Bf c M8) (f9 : Bf c M9) (f10 : Bf c M10)
    (Q : PUnit → sProp 𝕄) :
    iprop(pt c M1 f1 ∗ pt c M2 f2 ∗ pt c M3 f3 ∗ pt c M4 f4 ∗ pt c M5 f5 ∗ pt c M6 f6 ∗ pt c M8 f8 ∗ pt c M9 f9 ∗ pt c M10 f10
        ∗ (∀ g8 g9 g10, ⌜M8.view.read (Elt Ideal) g8 = k0_pay23 (M1.view.read (Elt Ideal) f1)
            ∧ (∀ b p, M9.view.read (Elt Ideal) g9 (ix3 (n0 := 64) (n1 := 1) (n2 := 256) b 0 p) = if h : b.val / 8 = (i 0).val then
                rowsOf (scoreBlk (M1.view.read (Elt Ideal) f1) (M2.view.read (Elt Ideal) f2) (M3.view.read (Elt Ideal) f3) (M4.view.read (Elt Ideal) f4)
                  (M5.view.read (Elt Ideal) f5) (M6.view.read (Elt Ideal) f6)) ⟨b.val % 8, by omega⟩ (ix3 0 0 p)
                else M9.view.read (Elt Ideal) f9 (ix3 (n0 := 64) (n1 := 1) (n2 := 256) b 0 p))
            ∧ M10.view.read (Elt Ideal) g10 = cmAll (BitVec.ofNat 32 (i 0).val)
                (scoreBlk (M1.view.read (Elt Ideal) f1) (M2.view.read (Elt Ideal) f2) (M3.view.read (Elt Ideal) f3) (M4.view.read (Elt Ideal) f4)
                  (M5.view.read (Elt Ideal) f5) (M6.view.read (Elt Ideal) f6)) (M10.view.read (Elt Ideal) f10)⌝ -∗ iprop(pt c M1 f1 ∗ pt c M2 f2 ∗ pt c M3 f3 ∗ pt c M4 f4 ∗ pt c M5 f5 ∗ pt c M6 f6 ∗ pt c M8 g8 ∗ pt c M9 g9 ∗ pt c M10 g10) -∗ Q ⟨⟩))
      ⊢ wp frame (wpE (defs₀ (F := Ideal)) 𝒱₀ (c : Thread nD τ) none) Set.univ
          (cc0__mlp_topk_body i M1 h1 M2 h2 M3 h3 M4 h4 M5 h5 M6 h6 M7 h7 M8 h8 M9 (Memref.isWhole_whole _) M10 (Memref.isWhole_whole _)) Q := by
  iintro ⟨H1, H2, H3, H4, H5, H6, H8, H9, H10, Hk⟩
  sl_exec!
  sl_step
  have hr : body_mid.sl.r_11 c M1 M2 M3 M4 M5 M6 f1 f2 f3 f4 f5 f6 = scoreBlk (M1.view.read (Elt Ideal) f1) (M2.view.read (Elt Ideal) f2)
      (M3.view.read (Elt Ideal) f3) (M4.view.read (Elt Ideal) f4) (M5.view.read (Elt Ideal) f5) (M6.view.read (Elt Ideal) f6) :=
    (show _ = scoreLoads M1 M2 M3 M4 M5 M6 f1 f2 f3 f4 f5 f6 from rfl).trans (scoreLoads_eq M1 M2 M3 M4 M5 M6 f1 f2 f3 f4 f5 f6)
  have h12 : body_mid.sl.r_12 c f10 = M10.view.read (Elt Ideal) f10 := View.readAt_full M10.view f10 inb_S1x64_S1x64_0_0
  have h20 : body_mid.sl.r_20 c i M1 M2 M3 M4 M5 M6 f1 f2 f3 f4 f5 f6 f10
      = cmAll (BitVec.ofNat 32 (i 0).val) (body_mid.sl.r_11 c M1 M2 M3 M4 M5 M6 f1 f2 f3 f4 f5 f6) (body_mid.sl.r_12 c f10) :=
    (show _ = k0_pay46 (BitVec.ofNat 32 (i 0).val) (body_mid.sl.r_11 c M1 M2 M3 M4 M5 M6 f1 f2 f3 f4 f5 f6) iota64
      (k0_pay37 (BitVec.ofNat 32 (i 0).val) (body_mid.sl.r_11 c M1 M2 M3 M4 M5 M6 f1 f2 f3 f4 f5 f6) iota64
        (k0_pay32 (BitVec.ofNat 32 (i 0).val) (body_mid.sl.r_11 c M1 M2 M3 M4 M5 M6 f1 f2 f3 f4 f5 f6) iota64 (body_mid.sl.r_12 c f10)
          (k0_pay26 (BitVec.ofNat 32 (i 0).val)) (broadcast S1x64 (rmax (row0 (body_mid.sl.r_11 c M1 M2 M3 M4 M5 M6 f1 f2 f3 f4 f5 f6)))))
        (k0_pay33 (body_mid.sl.r_11 c M1 M2 M3 M4 M5 M6 f1 f2 f3 f4 f5 f6)))
      (k0_pay40 (BitVec.ofNat 32 (i 0).val) iota64) (k0_pay41 (body_mid.sl.r_11 c M1 M2 M3 M4 M5 M6 f1 f2 f3 f4 f5 f6)) from rfl).trans (cmAll_eq _ _ _)
  have hp1 : k0_pay1 (body_mid.sl.r_20 c i M1 M2 M3 M4 M5 M6 f1 f2 f3 f4 f5 f6 f10) = body_mid.sl.r_20 c i M1 M2 M3 M4 M5 M6 f1 f2 f3 f4 f5 f6 f10 :=
    pay1_eq _
  have h25 : k0_pay25 (body_mid.sl.r c M2 f2) (body_mid.sl.r_1 c M3 f3) (body_mid.sl.r_2 c M4 f4) (body_mid.sl.r_3 c M5 f5) (body_mid.sl.r_4 c M6 f6) (body_mid.sl.r_10 c M1 M2 M3 M4 M5 M6 f1 f2 f3 f4 f5 f6)
        (View.readAt (Elt Ideal) M1.view (Rect.unit (s := S8x6x2048) ![7, 0, 0] S1x6x2048.size inb_S8x6x2048_S1x6x2048_7_0_0).toLoadRect f1) = row0 (body_mid.sl.r_11 c M1 M2 M3 M4 M5 M6 f1 f2 f3 f4 f5 f6) := rfl
  have h16 : body_mid.sl.r_16 c M1 M2 M3 M4 M5 M6 f1 f2 f3 f4 f5 f6 = k0_pay33 (body_mid.sl.r_11 c M1 M2 M3 M4 M5 M6 f1 f2 f3 f4 f5 f6) := rfl
  have hR : ∀ b p, M9.view.read (Elt Ideal) (M9.view.writes (Elt Ideal) f9 [⟨Rect.unit (s := S64x1x256) (k0_off1 i 7#32) S1x1x256.size (k0_off1_inb i 7), k0_pay45 (body_mid.sl.r_11 c M1 M2 M3 M4 M5 M6 f1 f2 f3 f4 f5 f6)⟩,
      ⟨Rect.unit (s := S64x1x256) (k0_off1 i 6#32) S1x1x256.size (k0_off1_inb i 6), k0_pay43 (body_mid.sl.r_11 c M1 M2 M3 M4 M5 M6 f1 f2 f3 f4 f5 f6)⟩,
      ⟨Rect.unit (s := S64x1x256) (k0_off1 i 5#32) S1x1x256.size (k0_off1_inb i 5), k0_pay39 (body_mid.sl.r_11 c M1 M2 M3 M4 M5 M6 f1 f2 f3 f4 f5 f6)⟩,
      ⟨Rect.unit (s := S64x1x256) (k0_off1 i 4#32) S1x1x256.size (k0_off1_inb i 4), k0_pay36 (body_mid.sl.r_11 c M1 M2 M3 M4 M5 M6 f1 f2 f3 f4 f5 f6)⟩,
      ⟨Rect.unit (s := S64x1x256) (k0_off1 i 3#32) S1x1x256.size (k0_off1_inb i 3), k0_pay34 (body_mid.sl.r_16 c M1 M2 M3 M4 M5 M6 f1 f2 f3 f4 f5 f6)⟩,
      ⟨Rect.unit (s := S64x1x256) (k0_off1 i 2#32) S1x1x256.size (k0_off1_inb i 2), k0_pay31 (body_mid.sl.r_11 c M1 M2 M3 M4 M5 M6 f1 f2 f3 f4 f5 f6)⟩,
      ⟨Rect.unit (s := S64x1x256) (k0_off1 i 1#32) S1x1x256.size (k0_off1_inb i 1), k0_pay29 (body_mid.sl.r_11 c M1 M2 M3 M4 M5 M6 f1 f2 f3 f4 f5 f6)⟩,
      ⟨Rect.unit (s := S64x1x256) (k0_off1 i 0#32) S1x1x256.size (k0_off1_inb i 0), k0_pay25 (body_mid.sl.r c M2 f2) (body_mid.sl.r_1 c M3 f3) (body_mid.sl.r_2 c M4 f4) (body_mid.sl.r_3 c M5 f5) (body_mid.sl.r_4 c M6 f6) (body_mid.sl.r_10 c M1 M2 M3 M4 M5 M6 f1 f2 f3 f4 f5 f6)
        (View.readAt (Elt Ideal) M1.view (Rect.unit (s := S8x6x2048) ![7, 0, 0] S1x6x2048.size inb_S8x6x2048_S1x6x2048_7_0_0).toLoadRect f1)⟩]) (ix3 (n0 := 64) (n1 := 1) (n2 := 256) b 0 p) = if h : b.val / 8 = (i 0).val then
    rowsOf (scoreBlk (M1.view.read (Elt Ideal) f1) (M2.view.read (Elt Ideal) f2) (M3.view.read (Elt Ideal) f3) (M4.view.read (Elt Ideal) f4) (M5.view.read (Elt Ideal) f5) (M6.view.read (Elt Ideal) f6)) ⟨b.val % 8, by omega⟩ (ix3 0 0 p) else M9.view.read (Elt Ideal) f9 (ix3 (n0 := 64) (n1 := 1) (n2 := 256) b 0 p) := by
    intro b p
    rw [h25, h16, ← hr]
    exact rows_eight M9.view f9 i (body_mid.sl.r_11 c M1 M2 M3 M4 M5 M6 f1 f2 f3 f4 f5 f6) _ _ _ _ _ _ _ _ b p
  rw [hr] at h20
  rw [h12] at h20
  ihave H8' := (pt_forget c M8 (fun g => M8.view.read (Elt Ideal) g = k0_pay23 (M1.view.read (Elt Ideal) f1))
    (M8.view.writes (Elt Ideal) M8.view.junk (body_mid.sl.H8_1 c M1 f1))
    ((read_whole M8.view M8.view.junk inb_S2048x128_S2048x128_0_0 _).trans (congrArg k0_pay23 (View.readAt_full M1.view f1 inb_S8x6x2048_S8x6x2048_0_0_0)))) $$ H8
  icases H8' with ⟨%g8, %hg8, H8⟩
  ihave H9' := (pt_forget c M9 (fun g => ∀ b p, M9.view.read (Elt Ideal) g (ix3 (n0 := 64) (n1 := 1) (n2 := 256) b 0 p) = if h : b.val / 8 = (i 0).val then
    rowsOf (scoreBlk (M1.view.read (Elt Ideal) f1) (M2.view.read (Elt Ideal) f2) (M3.view.read (Elt Ideal) f3) (M4.view.read (Elt Ideal) f4) (M5.view.read (Elt Ideal) f5) (M6.view.read (Elt Ideal) f6)) ⟨b.val % 8, by omega⟩ (ix3 0 0 p) else M9.view.read (Elt Ideal) f9 (ix3 (n0 := 64) (n1 := 1) (n2 := 256) b 0 p))
    (M9.view.writes (Elt Ideal) f9 [⟨Rect.unit (s := S64x1x256) (k0_off1 i 7#32) S1x1x256.size (k0_off1_inb i 7), k0_pay45 (body_mid.sl.r_11 c M1 M2 M3 M4 M5 M6 f1 f2 f3 f4 f5 f6)⟩,
      ⟨Rect.unit (s := S64x1x256) (k0_off1 i 6#32) S1x1x256.size (k0_off1_inb i 6), k0_pay43 (body_mid.sl.r_11 c M1 M2 M3 M4 M5 M6 f1 f2 f3 f4 f5 f6)⟩,
      ⟨Rect.unit (s := S64x1x256) (k0_off1 i 5#32) S1x1x256.size (k0_off1_inb i 5), k0_pay39 (body_mid.sl.r_11 c M1 M2 M3 M4 M5 M6 f1 f2 f3 f4 f5 f6)⟩,
      ⟨Rect.unit (s := S64x1x256) (k0_off1 i 4#32) S1x1x256.size (k0_off1_inb i 4), k0_pay36 (body_mid.sl.r_11 c M1 M2 M3 M4 M5 M6 f1 f2 f3 f4 f5 f6)⟩,
      ⟨Rect.unit (s := S64x1x256) (k0_off1 i 3#32) S1x1x256.size (k0_off1_inb i 3), k0_pay34 (body_mid.sl.r_16 c M1 M2 M3 M4 M5 M6 f1 f2 f3 f4 f5 f6)⟩,
      ⟨Rect.unit (s := S64x1x256) (k0_off1 i 2#32) S1x1x256.size (k0_off1_inb i 2), k0_pay31 (body_mid.sl.r_11 c M1 M2 M3 M4 M5 M6 f1 f2 f3 f4 f5 f6)⟩,
      ⟨Rect.unit (s := S64x1x256) (k0_off1 i 1#32) S1x1x256.size (k0_off1_inb i 1), k0_pay29 (body_mid.sl.r_11 c M1 M2 M3 M4 M5 M6 f1 f2 f3 f4 f5 f6)⟩,
      ⟨Rect.unit (s := S64x1x256) (k0_off1 i 0#32) S1x1x256.size (k0_off1_inb i 0), k0_pay25 (body_mid.sl.r c M2 f2) (body_mid.sl.r_1 c M3 f3) (body_mid.sl.r_2 c M4 f4) (body_mid.sl.r_3 c M5 f5) (body_mid.sl.r_4 c M6 f6) (body_mid.sl.r_10 c M1 M2 M3 M4 M5 M6 f1 f2 f3 f4 f5 f6)
        (View.readAt (Elt Ideal) M1.view (Rect.unit (s := S8x6x2048) ![7, 0, 0] S1x6x2048.size inb_S8x6x2048_S1x6x2048_7_0_0).toLoadRect f1)⟩]) hR) $$ H9
  icases H9' with ⟨%g9, %hg9, H9⟩
  ihave H10' := (pt_forget c M10 (fun g => M10.view.read (Elt Ideal) g = cmAll (BitVec.ofNat 32 (i 0).val) (scoreBlk (M1.view.read (Elt Ideal) f1) (M2.view.read (Elt Ideal) f2) (M3.view.read (Elt Ideal) f3) (M4.view.read (Elt Ideal) f4) (M5.view.read (Elt Ideal) f5) (M6.view.read (Elt Ideal) f6)) (M10.view.read (Elt Ideal) f10))
    (M10.view.writes (Elt Ideal) M10.view.junk (body_mid.sl.H10_1 c i M1 M2 M3 M4 M5 M6 f1 f2 f3 f4 f5 f6 f10))
    ((read_whole M10.view M10.view.junk inb_S1x64_S1x64_0_0 _).trans (hp1.trans h20))) $$ H10
  icases H10' with ⟨%g10, %hg10, H10⟩
  iapply Hk $$ %g8 %g9 %g10 %⟨hg8, hg9, hg10⟩ [H1 H2 H3 H4 H5 H6 H8 H9 H10]
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iexact H10

set_option maxHeartbeats 1000000 in
theorem body_last (S : Fin 16384 → EReal) (c : Dev nD) (i : grid0.Coords) (hc : k0_cond1 i = 1#1) (hi : (i 0).val = 7)
    (M1 : Memref sig .tc .vmem S8x6x2048 .f32) (h1 : M1.IsWhole) (M2 : Memref sig .tc .vmem S256x6 .f32) (h2 : M2.IsWhole)
    (M3 : Memref sig .tc .vmem S256x1 .f32) (h3 : M3.IsWhole) (M4 : Memref sig .tc .vmem S256x256 .f32) (h4 : M4.IsWhole)
    (M5 : Memref sig .tc .vmem S256x1 .f32) (h5 : M5.IsWhole) (M6 : Memref sig .tc .vmem S1x256 .f32) (h6 : M6.IsWhole)
    (M7 : Memref sig .tc .vmem S2x128 .i32) (h7 : M7.IsWhole) (M8 : Memref sig .tc .vmem S2048x128 .f32) (h8 : M8.IsWhole)
    (f1 : Bf c M1) (f2 : Bf c M2) (f3 : Bf c M3) (f4 : Bf c M4) (f5 : Bf c M5) (f6 : Bf c M6) (f7 : Bf c M7) (f8 : Bf c M8) (f9 : Bf c M9) (f10 : Bf c M10)
    (hS : SelUpTo (8 * (i 0).val) S (M9.view.read (Elt Ideal) f9) (M10.view.read (Elt Ideal) f10))
    (hv : ∀ q : Fin 2048, (scoreBlk (M1.view.read (Elt Ideal) f1) (M2.view.read (Elt Ideal) f2) (M3.view.read (Elt Ideal) f3) (M4.view.read (Elt Ideal) f4) (M5.view.read (Elt Ideal) f5) (M6.view.read (Elt Ideal) f6)) (ix2 0 q) = S ⟨2048 * (i 0).val + q, by have : (i 0).val < 8 := (i 0).isLt; omega⟩)
    (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
        ∗ (∀ g7 g8 g9 g10, ⌜M8.view.read (Elt Ideal) g8 = k0_pay23 (M1.view.read (Elt Ideal) f1)
            ∧ ∀ r q, M7.view.read (Elt Ideal) g7 (ix2 (n0 := 2) (n1 := 128) r q) = BitVec.ofNat 32 (sel S (128 * r.val + q.val))⌝ -∗ iprop(pt c M1 f1 ∗ pt c M2 f2 ∗ pt c M3 f3 ∗ pt c M4 f4 ∗ pt c M5 f5 ∗ pt c M6 f6 ∗ pt c M7 g7 ∗ pt c M8 g8 ∗ pt c M9 g9 ∗ pt c M10 g10) -∗ Q ⟨⟩))
      ⊢ wp frame (wpE (defs₀ (F := Ideal)) 𝒱₀ (c : Thread nD τ) none) Set.univ
          (cc0__mlp_topk_body i M1 h1 M2 h2 M3 h3 M4 h4 M5 h5 M6 h6 M7 h7 M8 h8 M9 (Memref.isWhole_whole _) M10 (Memref.isWhole_whole _)) Q := by
  iintro ⟨H1, H2, H3, H4, H5, H6, H7, H8, H9, H10, Hk⟩
  sl_exec!
  have hr : body_last.sl.r_11 c M1 M2 M3 M4 M5 M6 f1 f2 f3 f4 f5 f6 = scoreBlk (M1.view.read (Elt Ideal) f1) (M2.view.read (Elt Ideal) f2)
      (M3.view.read (Elt Ideal) f3) (M4.view.read (Elt Ideal) f4) (M5.view.read (Elt Ideal) f5) (M6.view.read (Elt Ideal) f6) :=
    (show _ = scoreLoads M1 M2 M3 M4 M5 M6 f1 f2 f3 f4 f5 f6 from rfl).trans (scoreLoads_eq M1 M2 M3 M4 M5 M6 f1 f2 f3 f4 f5 f6)
  have h12 : body_last.sl.r_12 c f10 = M10.view.read (Elt Ideal) f10 := View.readAt_full M10.view f10 inb_S1x64_S1x64_0_0
  have h20 : body_last.sl.r_20 c i M1 M2 M3 M4 M5 M6 f1 f2 f3 f4 f5 f6 f10
      = cmAll (BitVec.ofNat 32 (i 0).val) (body_last.sl.r_11 c M1 M2 M3 M4 M5 M6 f1 f2 f3 f4 f5 f6) (body_last.sl.r_12 c f10) :=
    (show _ = k0_pay46 (BitVec.ofNat 32 (i 0).val) (body_last.sl.r_11 c M1 M2 M3 M4 M5 M6 f1 f2 f3 f4 f5 f6) iota64
      (k0_pay37 (BitVec.ofNat 32 (i 0).val) (body_last.sl.r_11 c M1 M2 M3 M4 M5 M6 f1 f2 f3 f4 f5 f6) iota64
        (k0_pay32 (BitVec.ofNat 32 (i 0).val) (body_last.sl.r_11 c M1 M2 M3 M4 M5 M6 f1 f2 f3 f4 f5 f6) iota64 (body_last.sl.r_12 c f10)
          (k0_pay26 (BitVec.ofNat 32 (i 0).val)) (broadcast S1x64 (rmax (row0 (body_last.sl.r_11 c M1 M2 M3 M4 M5 M6 f1 f2 f3 f4 f5 f6)))))
        (k0_pay33 (body_last.sl.r_11 c M1 M2 M3 M4 M5 M6 f1 f2 f3 f4 f5 f6)))
      (k0_pay40 (BitVec.ofNat 32 (i 0).val) iota64) (k0_pay41 (body_last.sl.r_11 c M1 M2 M3 M4 M5 M6 f1 f2 f3 f4 f5 f6)) from rfl).trans (cmAll_eq _ _ _)
  have hp1 : k0_pay1 (body_last.sl.r_20 c i M1 M2 M3 M4 M5 M6 f1 f2 f3 f4 f5 f6 f10) = body_last.sl.r_20 c i M1 M2 M3 M4 M5 M6 f1 f2 f3 f4 f5 f6 f10 :=
    pay1_eq _
  have hv279 : body_last.sl.v279 c i M1 M2 M3 M4 M5 M6 f1 f2 f3 f4 f5 f6 f10 = body_last.sl.r_20 c i M1 M2 M3 M4 M5 M6 f1 f2 f3 f4 f5 f6 f10 := by
    refine Eq.trans ?_ hp1
    delta body_last.sl.v279
    exact View.readCov_full M10.view inb_S1x64_S1x64_0_0 inb_S1x64_S1x64_0_0 _ []
  have h25 : k0_pay25 (body_last.sl.r c M2 f2) (body_last.sl.r_1 c M3 f3) (body_last.sl.r_2 c M4 f4) (body_last.sl.r_3 c M5 f5) (body_last.sl.r_4 c M6 f6) (body_last.sl.r_10 c M1 M2 M3 M4 M5 M6 f1 f2 f3 f4 f5 f6)
        (View.readAt (Elt Ideal) M1.view (Rect.unit (s := S8x6x2048) ![7, 0, 0] S1x6x2048.size inb_S8x6x2048_S1x6x2048_7_0_0).toLoadRect f1) = row0 (body_last.sl.r_11 c M1 M2 M3 M4 M5 M6 f1 f2 f3 f4 f5 f6) := rfl
  have h16 : body_last.sl.r_16 c M1 M2 M3 M4 M5 M6 f1 f2 f3 f4 f5 f6 = k0_pay33 (body_last.sl.r_11 c M1 M2 M3 M4 M5 M6 f1 f2 f3 f4 f5 f6) := rfl
  have hR : ∀ b p, M9.view.read (Elt Ideal) (M9.view.writes (Elt Ideal) f9 [⟨Rect.unit (s := S64x1x256) (k0_off1 i 7#32) S1x1x256.size (k0_off1_inb i 7), k0_pay45 (body_last.sl.r_11 c M1 M2 M3 M4 M5 M6 f1 f2 f3 f4 f5 f6)⟩,
      ⟨Rect.unit (s := S64x1x256) (k0_off1 i 6#32) S1x1x256.size (k0_off1_inb i 6), k0_pay43 (body_last.sl.r_11 c M1 M2 M3 M4 M5 M6 f1 f2 f3 f4 f5 f6)⟩,
      ⟨Rect.unit (s := S64x1x256) (k0_off1 i 5#32) S1x1x256.size (k0_off1_inb i 5), k0_pay39 (body_last.sl.r_11 c M1 M2 M3 M4 M5 M6 f1 f2 f3 f4 f5 f6)⟩,
      ⟨Rect.unit (s := S64x1x256) (k0_off1 i 4#32) S1x1x256.size (k0_off1_inb i 4), k0_pay36 (body_last.sl.r_11 c M1 M2 M3 M4 M5 M6 f1 f2 f3 f4 f5 f6)⟩,
      ⟨Rect.unit (s := S64x1x256) (k0_off1 i 3#32) S1x1x256.size (k0_off1_inb i 3), k0_pay34 (body_last.sl.r_16 c M1 M2 M3 M4 M5 M6 f1 f2 f3 f4 f5 f6)⟩,
      ⟨Rect.unit (s := S64x1x256) (k0_off1 i 2#32) S1x1x256.size (k0_off1_inb i 2), k0_pay31 (body_last.sl.r_11 c M1 M2 M3 M4 M5 M6 f1 f2 f3 f4 f5 f6)⟩,
      ⟨Rect.unit (s := S64x1x256) (k0_off1 i 1#32) S1x1x256.size (k0_off1_inb i 1), k0_pay29 (body_last.sl.r_11 c M1 M2 M3 M4 M5 M6 f1 f2 f3 f4 f5 f6)⟩,
      ⟨Rect.unit (s := S64x1x256) (k0_off1 i 0#32) S1x1x256.size (k0_off1_inb i 0), k0_pay25 (body_last.sl.r c M2 f2) (body_last.sl.r_1 c M3 f3) (body_last.sl.r_2 c M4 f4) (body_last.sl.r_3 c M5 f5) (body_last.sl.r_4 c M6 f6) (body_last.sl.r_10 c M1 M2 M3 M4 M5 M6 f1 f2 f3 f4 f5 f6)
        (View.readAt (Elt Ideal) M1.view (Rect.unit (s := S8x6x2048) ![7, 0, 0] S1x6x2048.size inb_S8x6x2048_S1x6x2048_7_0_0).toLoadRect f1)⟩]) (ix3 (n0 := 64) (n1 := 1) (n2 := 256) b 0 p) = if h : b.val / 8 = (i 0).val then
    rowsOf (scoreBlk (M1.view.read (Elt Ideal) f1) (M2.view.read (Elt Ideal) f2) (M3.view.read (Elt Ideal) f3) (M4.view.read (Elt Ideal) f4) (M5.view.read (Elt Ideal) f5) (M6.view.read (Elt Ideal) f6)) ⟨b.val % 8, by omega⟩ (ix3 0 0 p) else M9.view.read (Elt Ideal) f9 (ix3 (n0 := 64) (n1 := 1) (n2 := 256) b 0 p) := by
    intro b p
    rw [h25, h16, ← hr]
    exact rows_eight M9.view f9 i (body_last.sl.r_11 c M1 M2 M3 M4 M5 M6 f1 f2 f3 f4 f5 f6) _ _ _ _ _ _ _ _ b p
  rw [hr] at h20
  rw [h12] at h20
  ihave H8' := (pt_forget c M8 (fun g => M8.view.read (Elt Ideal) g = k0_pay23 (M1.view.read (Elt Ideal) f1))
    (M8.view.writes (Elt Ideal) M8.view.junk (body_last.sl.H8_1 c M1 f1))
    ((read_whole M8.view M8.view.junk inb_S2048x128_S2048x128_0_0 _).trans (congrArg k0_pay23 (View.readAt_full M1.view f1 inb_S8x6x2048_S8x6x2048_0_0_0)))) $$ H8
  icases H8' with ⟨%g8, %hg8, H8⟩
  ihave H9' := (pt_forget c M9 (fun g => ∀ b p, M9.view.read (Elt Ideal) g (ix3 (n0 := 64) (n1 := 1) (n2 := 256) b 0 p) = if h : b.val / 8 = (i 0).val then
    rowsOf (scoreBlk (M1.view.read (Elt Ideal) f1) (M2.view.read (Elt Ideal) f2) (M3.view.read (Elt Ideal) f3) (M4.view.read (Elt Ideal) f4) (M5.view.read (Elt Ideal) f5) (M6.view.read (Elt Ideal) f6)) ⟨b.val % 8, by omega⟩ (ix3 0 0 p) else M9.view.read (Elt Ideal) f9 (ix3 (n0 := 64) (n1 := 1) (n2 := 256) b 0 p))
    (M9.view.writes (Elt Ideal) f9 [⟨Rect.unit (s := S64x1x256) (k0_off1 i 7#32) S1x1x256.size (k0_off1_inb i 7), k0_pay45 (body_last.sl.r_11 c M1 M2 M3 M4 M5 M6 f1 f2 f3 f4 f5 f6)⟩,
      ⟨Rect.unit (s := S64x1x256) (k0_off1 i 6#32) S1x1x256.size (k0_off1_inb i 6), k0_pay43 (body_last.sl.r_11 c M1 M2 M3 M4 M5 M6 f1 f2 f3 f4 f5 f6)⟩,
      ⟨Rect.unit (s := S64x1x256) (k0_off1 i 5#32) S1x1x256.size (k0_off1_inb i 5), k0_pay39 (body_last.sl.r_11 c M1 M2 M3 M4 M5 M6 f1 f2 f3 f4 f5 f6)⟩,
      ⟨Rect.unit (s := S64x1x256) (k0_off1 i 4#32) S1x1x256.size (k0_off1_inb i 4), k0_pay36 (body_last.sl.r_11 c M1 M2 M3 M4 M5 M6 f1 f2 f3 f4 f5 f6)⟩,
      ⟨Rect.unit (s := S64x1x256) (k0_off1 i 3#32) S1x1x256.size (k0_off1_inb i 3), k0_pay34 (body_last.sl.r_16 c M1 M2 M3 M4 M5 M6 f1 f2 f3 f4 f5 f6)⟩,
      ⟨Rect.unit (s := S64x1x256) (k0_off1 i 2#32) S1x1x256.size (k0_off1_inb i 2), k0_pay31 (body_last.sl.r_11 c M1 M2 M3 M4 M5 M6 f1 f2 f3 f4 f5 f6)⟩,
      ⟨Rect.unit (s := S64x1x256) (k0_off1 i 1#32) S1x1x256.size (k0_off1_inb i 1), k0_pay29 (body_last.sl.r_11 c M1 M2 M3 M4 M5 M6 f1 f2 f3 f4 f5 f6)⟩,
      ⟨Rect.unit (s := S64x1x256) (k0_off1 i 0#32) S1x1x256.size (k0_off1_inb i 0), k0_pay25 (body_last.sl.r c M2 f2) (body_last.sl.r_1 c M3 f3) (body_last.sl.r_2 c M4 f4) (body_last.sl.r_3 c M5 f5) (body_last.sl.r_4 c M6 f6) (body_last.sl.r_10 c M1 M2 M3 M4 M5 M6 f1 f2 f3 f4 f5 f6)
        (View.readAt (Elt Ideal) M1.view (Rect.unit (s := S8x6x2048) ![7, 0, 0] S1x6x2048.size inb_S8x6x2048_S1x6x2048_7_0_0).toLoadRect f1)⟩]) hR) $$ H9
  icases H9' with ⟨%g9, %hg9, H9⟩
  ihave H10' := (pt_forget c M10 (fun g => M10.view.read (Elt Ideal) g = cmAll (BitVec.ofNat 32 (i 0).val) (scoreBlk (M1.view.read (Elt Ideal) f1) (M2.view.read (Elt Ideal) f2) (M3.view.read (Elt Ideal) f3) (M4.view.read (Elt Ideal) f4) (M5.view.read (Elt Ideal) f5) (M6.view.read (Elt Ideal) f6)) (M10.view.read (Elt Ideal) f10))
    (M10.view.writes (Elt Ideal) M10.view.junk (body_last.sl.H10_1 c i M1 M2 M3 M4 M5 M6 f1 f2 f3 f4 f5 f6 f10))
    ((read_whole M10.view M10.view.junk inb_S1x64_S1x64_0_0 _).trans (hp1.trans h20))) $$ H10
  icases H10' with ⟨%g10, %hg10, H10⟩
  rw [← hv279] at h20
  have hsel := (hS.step (t := (i 0).val) (by omega) _ hv (M9.view.read (Elt Ideal) g9) hg9).sel (by omega)
  sl_for (loopI S c) $$ [H9]
  case region => exact (loopInv S c i M1 h1 M2 h2 M3 h3 M4 h4 M5 h5 M6 h6 M7 h7 M8 h8 hc (body_last.sl.v279 c i M1 M2 M3 M4 M5 M6 f1 f2 f3 f4 f5 f6 f10, k0_pay3)).step
  · iexists g9
    isplitr
    · ipureintro
      refine ⟨?_, fun r q => ?_⟩
      · show Sel S (M9.view.read (Elt Ideal) g9) (body_last.sl.v279 c i M1 M2 M3 M4 M5 M6 f1 f2 f3 f4 f5 f6 f10)
        rw [h20]; exact hsel
      · rw [if_neg (by omega)]; rfl
    · iexact H9
  iintro %acc ⟨%g9', %hL, H9⟩
  sl_exec!
  sl_step
  ihave H7' := (pt_forget c M7 (fun g => ∀ r q, M7.view.read (Elt Ideal) g (ix2 (n0 := 2) (n1 := 128) r q) = BitVec.ofNat 32 (sel S (128 * r.val + q.val)))
    (M7.view.writes (Elt Ideal) M7.view.junk (body_last.sl.H7_1 acc))
    (fun r q => (congrFun (read_whole M7.view M7.view.junk inb_S2x128_S2x128_0_0 acc.2) _).trans
      ((hL.out r q).trans (if_pos (show 128 * r.val + q.val < 256 by omega))))) $$ H7
  icases H7' with ⟨%g7, %hg7, H7⟩
  iapply Hk $$ %g7 %g8 %g9' %g10 %⟨hg8, hg7⟩ [H1 H2 H3 H4 H5 H6 H7 H8 H9 H10]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.KI

end
-- ==== Proof.Region.lean ====
/-
  The TensorCore kernel's region: its proof data from any contents of the arrays at entry, the body obligation at
  every grid point, and the region over the arrays @main holds.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Regions

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig (HIx 1) (Elt Ideal) ℕ UU ℕ

/-- A whole memref owned at `X` is its buffer, whole, at contents that read `X`. -/
theorem owns_pt {sp : Space} {s : Shape} {e : EltTy} (c : Dev nD) (M : Memref sig .tc sp s e) (h : M.IsWhole) (X : s.Idx → Elt Ideal e) :
    (owns (c : Thread nD τ) M fullShare X : sProp 𝕄) = iprop(∃ f : Bf c M, ⌜M.view.read (Elt Ideal) f = X⌝ ∗ pt c M f) := by
  obtain ⟨b, hsp, hsh, he, h⟩ := h
  subst hsp hsh he
  cases h
  show owns (c : Thread nD τ) (Memref.whole b) fullShare X = _
  rw [owns_whole_eq]
  rfl

theorem owns_ex {sp : Space} {s : Shape} {e : EltTy} {I : Type} (c : Dev nD) (M : Memref sig .tc sp s e) (h : M.IsWhole) (X : I → s.Idx → Elt Ideal e) :
    iprop(∃ d, owns (c : Thread nD τ) M fullShare (X d)) ⊢ (iprop(∃ f : Bf c M, ⌜∃ d, M.view.read (Elt Ideal) f = X d⌝ ∗ pt c M f) : sProp 𝕄) := by
  simp only [owns_pt c M h]
  iintro ⟨%d, %f, %hf, H⟩
  iexists f; isplitr
  · ipureintro; exact ⟨d, hf⟩
  · iexact H

theorem pt_owns {sp : Space} {s : Shape} {e : EltTy} (c : Dev nD) (M : Memref sig .tc sp s e) (h : M.IsWhole) (X : s.Idx → Elt Ideal e)
    (f : Bf c M) (hf : M.view.read (Elt Ideal) f = X) : pt c M f ⊢ (owns (c : Thread nD τ) M fullShare X : sProp 𝕄) := by
  rw [owns_pt c M h]
  iintro H
  iexists f; isplitr
  · ipureintro; exact hf
  · iexact H

theorem coord_val : ∀ t : Fin grid0.N, (grid0.coords t 0).val = t.val := by decide

theorem cond_iff : ∀ t : Fin grid0.N, k0_cond1 (grid0.coords t) = 1#1 ↔ t.val = 7 := by decide

/-- The arrays' contents, core by core. -/
abbrev Vals : Type := (c : Dev nD) → (b : Ref sig .tc) → Buf (Elt Ideal) ((c : Thread nD τ).loc b)

variable (V : Vals)

section Blocks

variable [Cert.KernelIdeal.Facts]

abbrev x0 (c : Dev nD) (t : Fin cfg0.N) : FVec Ideal S8x6x2048 .f32 := ((cfg0.win 0).blk t).view.read (Elt Ideal) (V c main_arg0)
abbrev x1 (c : Dev nD) (t : Fin cfg0.N) : FVec Ideal S256x6 .f32 := ((cfg0.win 1).blk t).view.read (Elt Ideal) (V c main_v0)
abbrev x2 (c : Dev nD) (t : Fin cfg0.N) : FVec Ideal S256x1 .f32 := ((cfg0.win 2).blk t).view.read (Elt Ideal) (V c main_v3)
abbrev x3 (c : Dev nD) (t : Fin cfg0.N) : FVec Ideal S256x256 .f32 := ((cfg0.win 3).blk t).view.read (Elt Ideal) (V c main_v1)
abbrev x4 (c : Dev nD) (t : Fin cfg0.N) : FVec Ideal S256x1 .f32 := ((cfg0.win 4).blk t).view.read (Elt Ideal) (V c main_v4)
abbrev x5 (c : Dev nD) (t : Fin cfg0.N) : FVec Ideal S1x256 .f32 := ((cfg0.win 5).blk t).view.read (Elt Ideal) (V c main_v2)

/-- The scores of the points of block `t`. -/
def scoreAt (c : Dev nD) (t : Fin cfg0.N) : FVec Ideal S1x2048 .f32 :=
  scoreBlk (x0 V c t) (x1 V c t) (x2 V c t) (x3 V c t) (x4 V c t) (x5 V c t)

/-- The scores of all the points. -/
def score (c : Dev nD) : Fin 16384 → EReal := fun n =>
  scoreAt V c ⟨n.val / 2048, lt_of_lt_of_eq (by omega) N_0.symm⟩ (ix2 (n0 := 1) (n1 := 2048) 0 ⟨n.val % 2048, Nat.mod_lt _ (by omega)⟩)

theorem score_at (c : Dev nD) (t : Fin cfg0.N) (q : Fin 2048) (h : 2048 * t.val + q.val < 16384) :
    scoreAt V c t (ix2 (n0 := 1) (n1 := 2048) 0 q) = score V c ⟨2048 * t.val + q.val, h⟩ := by
  unfold score
  have h1 : (⟨(2048 * t.val + q.val) / 2048, lt_of_lt_of_eq (by omega) N_0.symm⟩ : Fin cfg0.N) = t := Fin.ext (by simp only; omega)
  have h2 : (⟨(2048 * t.val + q.val) % 2048, Nat.mod_lt _ (by omega)⟩ : Fin 2048) = q := Fin.ext (by simp only; omega)
  simp only [h1, h2]

/-- The chosen points' numbers, in order. -/
def chosen (c : Dev nD) : IVec S2x128 32 := fun j => BitVec.ofNat 32 (sel (score V c) (128 * (j 0).val + (j 1).val))

/-- Between points: the scratch buffers, at the scores of the blocks done. -/
abbrev between (c : Dev nD) (n : ℕ) : sProp 𝕄 := iprop(∃ (f9 : Bf c M9) (f10 : Bf c M10),
    ⌜n < 8 → SelUpTo (8 * n) (score V c) (M9.view.read (Elt Ideal) f9) (M10.view.read (Elt Ideal) f10)⌝ ∗ pt c M9 f9 ∗ pt c M10 f10)

/-- The region's proof data. -/
def dat (c : Dev nD) : Dat τ (Elt Ideal) (HIx 1) ℕ UU ℕ cfg0 c where
  A w := V c (Pipeline.arrRef spec0 w)
  after w t := match w with
    | ⟨0, _⟩ => x0 V c t
    | ⟨1, _⟩ => x1 V c t
    | ⟨2, _⟩ => x2 V c t
    | ⟨3, _⟩ => x3 V c t
    | ⟨4, _⟩ => x4 V c t
    | ⟨5, _⟩ => x5 V c t
    | ⟨6, _⟩ => chosen V c
    | ⟨7, _⟩ => k0_pay23 (F := Ideal) (x0 V c t)
  Φ t := between V c t.val
  q _ := fullShare
  owed _ := (K (F := Ideal)).Otc c 0
  recorded _ := {p | (K (F := Ideal)).lev (N := 1) ((c : Thread nD τ), p.1) p.2 ≤ 0}

theorem before0 (c : Dev nD) (t : Fin cfg0.N) (d) : (dat V c).before 0 t d = x0 V c t :=
  Dat.before_in_eq_fetched (dat V c) 0 rfl (fun _ => rfl) (fun _ _ _ => rfl) (fun _ => rfl) t d
theorem before1 (c : Dev nD) (t : Fin cfg0.N) (d) : (dat V c).before 1 t d = x1 V c t :=
  Dat.before_in_eq_fetched (dat V c) 1 rfl (fun _ => rfl) (fun _ _ _ => rfl) (fun _ => rfl) t d
theorem before2 (c : Dev nD) (t : Fin cfg0.N) (d) : (dat V c).before 2 t d = x2 V c t :=
  Dat.before_in_eq_fetched (dat V c) 2 rfl (fun _ => rfl) (fun _ _ _ => rfl) (fun _ => rfl) t d
theorem before3 (c : Dev nD) (t : Fin cfg0.N) (d) : (dat V c).before 3 t d = x3 V c t :=
  Dat.before_in_eq_fetched (dat V c) 3 rfl (fun _ => rfl) (fun _ _ _ => rfl) (fun _ => rfl) t d
theorem before4 (c : Dev nD) (t : Fin cfg0.N) (d) : (dat V c).before 4 t d = x4 V c t :=
  Dat.before_in_eq_fetched (dat V c) 4 rfl (fun _ => rfl) (fun _ _ _ => rfl) (fun _ => rfl) t d
theorem before5 (c : Dev nD) (t : Fin cfg0.N) (d) : (dat V c).before 5 t d = x5 V c t :=
  Dat.before_in_eq_fetched (dat V c) 5 rfl (fun _ => rfl) (fun _ _ _ => rfl) (fun _ => rfl) t d

set_option maxHeartbeats 1000000 in
/-- The body, at every point. -/
theorem body_obligation (c : Dev nD) : BodyObligation (dat V c) (defs₀ (F := Ideal)) 𝒱₀ none Set.univ := fun t => by
  have hN : t.val < 8 := lt_of_lt_of_eq t.isLt N_0
  have hi : (grid0.coords t 0).val = t.val := coord_val t
  rw [bigSep_W0, bigSep_W0]
  rw [show (dat V c).owesAt none t.succ = (dat V c).owesAt none t.castSucc from rfl]
  rw [show (dat V c).Φ t.castSucc = between V c t.val from rfl, show (dat V c).Φ t.succ = between V c (t.val + 1) from rfl]
  refine (BIClass.sep_mono .rfl (BIClass.sep_mono .rfl (BIClass.sep_mono (owns_ex c (st0_0 t) (hstage0_0 ((cfg0.slots t 0).cast nbuf0_0)) ((dat V c).before 0 t))
    (BIClass.sep_mono (owns_ex c (st0_1 t) (hstage0_1 ((cfg0.slots t 1).cast nbuf0_1)) ((dat V c).before 1 t))
    (BIClass.sep_mono (owns_ex c (st0_2 t) (hstage0_2 ((cfg0.slots t 2).cast nbuf0_2)) ((dat V c).before 2 t))
    (BIClass.sep_mono (owns_ex c (st0_3 t) (hstage0_3 ((cfg0.slots t 3).cast nbuf0_3)) ((dat V c).before 3 t))
    (BIClass.sep_mono (owns_ex c (st0_4 t) (hstage0_4 ((cfg0.slots t 4).cast nbuf0_4)) ((dat V c).before 4 t))
    (BIClass.sep_mono (owns_ex c (st0_5 t) (hstage0_5 ((cfg0.slots t 5).cast nbuf0_5)) ((dat V c).before 5 t))
    (BIClass.sep_mono (owns_ex c (st0_6 t) (hstage0_6 ((cfg0.slots t 6).cast nbuf0_6)) ((dat V c).before 6 t))
    (owns_ex c (st0_7 t) (hstage0_7 ((cfg0.slots t 7).cast nbuf0_7)) ((dat V c).before 7 t))))))))))).trans ?_
  dsimp only
  iintro ⟨⟨%f9, %f10, %hS, H9, H10⟩, HO, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩
  obtain ⟨d0, h0⟩ := h0
  rw [before0] at h0
  obtain ⟨d1, h1⟩ := h1
  rw [before1] at h1
  obtain ⟨d2, h2⟩ := h2
  rw [before2] at h2
  obtain ⟨d3, h3⟩ := h3
  rw [before3] at h3
  obtain ⟨d4, h4⟩ := h4
  rw [before4] at h4
  obtain ⟨d5, h5⟩ := h5
  rw [before5] at h5
  have hS : SelUpTo (8 * (grid0.coords t 0).val) (score V c) (M9.view.read (Elt Ideal) f9) (M10.view.read (Elt Ideal) f10) := by
    rw [hi]; exact hS hN
  have hsc : scoreBlk ((st0_0 t).view.read (Elt Ideal) f0) ((st0_1 t).view.read (Elt Ideal) f1) ((st0_2 t).view.read (Elt Ideal) f2)
      ((st0_3 t).view.read (Elt Ideal) f3) ((st0_4 t).view.read (Elt Ideal) f4) ((st0_5 t).view.read (Elt Ideal) f5) = scoreAt V c t := by
    rw [h0, h1, h2, h3, h4, h5]; rfl
  by_cases ht : t.val = 7
  · have hc : k0_cond1 (grid0.coords t) = 1#1 := (cond_iff t).mpr ht
    have hid : idle0 6 (grid0.coords t) = false := by
      show (!(k0_cond1 (grid0.coords t) == 1#1)) = false
      rw [hc]; rfl
    iapply (body_last (score V c) c (grid0.coords t) hc (hi.trans ht) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) (st0_7 t) (hstage0_7 ((cfg0.slots t 7).cast nbuf0_7))
      f0 f1 f2 f3 f4 f5 f6 f7 f9 f10 hS (by intro q; rw [hsc]; exact (score_at V c t q (by omega)).trans (by congr 1; exact Fin.ext (by simp only [hi]))) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    iintro %g6 %g7 %g9 %g10 %hg ⟨H0, H1, H2, H3, H4, H5, H6, H7, H9, H10⟩
    obtain ⟨hg7, hg6⟩ := hg
    have h6 : (st0_6 t).view.read (Elt Ideal) g6 = chosen V c := by
      funext j
      obtain ⟨r, q, rfl⟩ : ∃ (r : Fin 2) (q : Fin 128), j = ix2 (n0 := 2) (n1 := 128) r q := ⟨j 0, j 1, by funext k; fin_cases k <;> rfl⟩
      exact hg6 r q
    have h7 : (st0_7 t).view.read (Elt Ideal) g7 = k0_pay23 (F := Ideal) (x0 V c t) := hg7.trans (congrArg _ h0)
    simp only [hid]
    isplitl [H9 H10]
    · iexists g9; iexists g10; isplitr
      · ipureintro
        intro h
        exact absurd h (by omega)
      isplitl [H9] <;> iassumption
    isplitl [HO]; · iexact HO
    isplitl [H0]; · iapply (pt_owns c (st0_0 t) (hstage0_0 ((cfg0.slots t 0).cast nbuf0_0)) _ _ h0); iexact H0
    isplitl [H1]; · iapply (pt_owns c (st0_1 t) (hstage0_1 ((cfg0.slots t 1).cast nbuf0_1)) _ _ h1); iexact H1
    isplitl [H2]; · iapply (pt_owns c (st0_2 t) (hstage0_2 ((cfg0.slots t 2).cast nbuf0_2)) _ _ h2); iexact H2
    isplitl [H3]; · iapply (pt_owns c (st0_3 t) (hstage0_3 ((cfg0.slots t 3).cast nbuf0_3)) _ _ h3); iexact H3
    isplitl [H4]; · iapply (pt_owns c (st0_4 t) (hstage0_4 ((cfg0.slots t 4).cast nbuf0_4)) _ _ h4); iexact H4
    isplitl [H5]; · iapply (pt_owns c (st0_5 t) (hstage0_5 ((cfg0.slots t 5).cast nbuf0_5)) _ _ h5); iexact H5
    isplitl [H6]; · iapply (pt_owns c (st0_6 t) (hstage0_6 ((cfg0.slots t 6).cast nbuf0_6)) _ _ h6); iexact H6
    iapply (pt_owns c (st0_7 t) (hstage0_7 ((cfg0.slots t 7).cast nbuf0_7)) _ _ h7); iexact H7
  · have hc : ¬ k0_cond1 (grid0.coords t) = 1#1 := fun h => ht ((cond_iff t).mp h)
    have hid : idle0 6 (grid0.coords t) = true := by
      show (!(k0_cond1 (grid0.coords t) == 1#1)) = true
      rw [show (k0_cond1 (grid0.coords t) == 1#1) = false from beq_eq_false_iff_ne.mpr hc]; rfl
    have hfl : (win0 6).flush t = false := by
      rw [← Bool.not_eq_true]; intro h
      have := (flush0_6 t).mp h
      omega
    iapply (body_mid c (grid0.coords t) hc (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) (st0_7 t) (hstage0_7 ((cfg0.slots t 7).cast nbuf0_7))
      f0 f1 f2 f3 f4 f5 f7 f9 f10 _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H9]; · iexact H9
    isplitl [H10]; · iexact H10
    iintro %g7 %g9 %g10 %hg ⟨H0, H1, H2, H3, H4, H5, H7, H9, H10⟩
    obtain ⟨hg7, hg9, hg10⟩ := hg
    rw [hsc] at hg10
    simp only [hsc] at hg9
    have h7 : (st0_7 t).view.read (Elt Ideal) g7 = k0_pay23 (F := Ideal) (x0 V c t) := hg7.trans (congrArg _ h0)
    have hS' : SelUpTo (8 * (t.val + 1)) (score V c) (M9.view.read (Elt Ideal) g9) (M10.view.read (Elt Ideal) g10) := by
      rw [hg10, hi]
      rw [hi] at hS
      exact SelUpTo.step hN hS (scoreAt V c t) (fun q => score_at V c t q (by omega)) _ (fun b p => (hg9 b p).trans (by simp only [hi]))
    simp only [hid, hfl]
    isplitl [H9 H10]
    · iexists g9; iexists g10; isplitr
      · ipureintro
        intro h
        exact hS'
      isplitl [H9] <;> iassumption
    isplitl [HO]; · iexact HO
    isplitl [H0]; · iapply (pt_owns c (st0_0 t) (hstage0_0 ((cfg0.slots t 0).cast nbuf0_0)) _ _ h0); iexact H0
    isplitl [H1]; · iapply (pt_owns c (st0_1 t) (hstage0_1 ((cfg0.slots t 1).cast nbuf0_1)) _ _ h1); iexact H1
    isplitl [H2]; · iapply (pt_owns c (st0_2 t) (hstage0_2 ((cfg0.slots t 2).cast nbuf0_2)) _ _ h2); iexact H2
    isplitl [H3]; · iapply (pt_owns c (st0_3 t) (hstage0_3 ((cfg0.slots t 3).cast nbuf0_3)) _ _ h3); iexact H3
    isplitl [H4]; · iapply (pt_owns c (st0_4 t) (hstage0_4 ((cfg0.slots t 4).cast nbuf0_4)) _ _ h4); iexact H4
    isplitl [H5]; · iapply (pt_owns c (st0_5 t) (hstage0_5 ((cfg0.slots t 5).cast nbuf0_5)) _ _ h5); iexact H5
    isplitl [H6]; · obtain ⟨d6, h6⟩ := h6; iexists d6; iapply (pt_owns c (st0_6 t) (hstage0_6 ((cfg0.slots t 6).cast nbuf0_6)) _ _ h6); iexact H6
    iapply (pt_owns c (st0_7 t) (hstage0_7 ((cfg0.slots t 7).cast nbuf0_7)) _ _ h7); iexact H7

end Blocks

end Cert.Proof.KI

end
-- ==== Proof.Seg.lean ====
/-
  The TensorCore kernel's region over the arrays @main holds: entered from the unscoped buffers at `W c` and what the
  core owes for the SparseCore call to come, left with the buffers at `afterRegion`.
-/
module

public import proofs.«01_k».proof.Proof.Region
public import Idealize.ShloMosaic.Lib.Pipeline.RegionArrays
public import Idealize.ShloMosaic.Lib.Pipeline.RegionArraysS

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf arrRefs ucRefs afterRegion)
open Idealize.ShloMosaic.StableHlo (held)

local notation "𝕄" => MT nD τ sig (HIx 1) (Elt Ideal) ℕ UU ℕ

/-- No table is prefetched. -/
abbrev adm : (p : Fin 1) → (pcfgs (F := Ideal) p).Adm := fun p => (cfgs p).toPCfg_adm

/-- What the core owes for the call to come, its recorded waits at the lowest level. -/
abbrev owing (c : Dev nD) : sProp 𝕄 :=
  iprop(∃ Wd, ⌜(K (F := Ideal)).WBelow (SparseCore.T c) Wd 0⌝ ∗ owes (SparseCore.T c) ((K (F := Ideal)).Otc c 0) Wd)

section
variable [Cert.KernelIdeal.Facts]

/-- A valuation of the device's buffers, at the TensorCore's references. -/
abbrev valsOf (W : Dev nD → Valuation τ sig (Elt Ideal)) : Vals := fun c b => W c (Proc.devRef .tc b)

variable (W : Dev nD → Valuation τ sig (Elt Ideal))

abbrev pdats (p : Fin 1) (c : Dev nD) : Dat τ (Elt Ideal) (HIx 1) ℕ UU ℕ (Pipeline.pin pcfgs adm p) c :=
  match p with | ⟨0, _⟩ => dat (valsOf W) c

theorem arrs_sub : arrRefs (τ := τ) spec0 ⊆ ucRefs τ sig := Pipeline.arrRefs_sub_ucRefs spec0 (by decide)

theorem seg_share (c : Dev nD) (w) : (pdats W 0 c).share w = fullShare := by
  unfold Dat.share; split <;> rfl

theorem seg_hin (c : Dev nD) : iprop(emp ∗ Pipeline.prefHeld (pcfgs (F := Ideal) 0).pre c (fun _ => fullShare) (adm 0).1 ∗ Pipeline.scopedRest spec0 c)
    ⊢ between (valsOf W) c 0 := by
  rw [scopedRest0_eq]
  iintro ⟨-, -, ⟨%f9, H9⟩, %f10, H10⟩
  iexists f9, f10
  isplitr
  · ipureintro; exact fun _ => SelUpTo.zero _ _ _
  isplitl [H9]
  · iexact H9
  · iexact H10

theorem seg_hout (c : Dev nD) : between (valsOf W) c 8
    ⊢ iprop(emp ∗ Pipeline.ownSems0 (fun k : PEmpty => k.elim) c ∗ Pipeline.scopedRest spec0 c) := by
  rw [scopedRest0_eq, Pipeline.ownSems0_none]
  iintro ⟨%f9, %f10, -, H9, H10⟩
  isplitr; · iempintro
  isplitr; · iempintro
  isplitl [H9]
  · iexists f9; iexact H9
  · iexists f10; iexact H10

/-- The region. -/
def seg : Pipeline.RegionSeg (pcfgs (F := Ideal)) adm (pdats W) none (defs₀ (F := Ideal)) 𝒱₀ (K (F := Ideal)).L ((K (F := Ideal)).lev (N := 1)) 0 where
  win := launch0.win.to₀
  block_pos := block_pos0
  stage_whole := stage_whole0
  K := PEmpty
  osem := fun k => k.elim
  ho := Pipeline.OwnSemFacts.none _
  hbody := fun c => (body_obligation (valsOf W) c).loose
  hwaits := fun c => Pipeline.cellsWaits_of_cut (Pipeline.pin pcfgs adm) (pdats W) none 0 c 0 ((K (F := Ideal)).Otc c 0)
    (fun _ => rfl) (fun _ _ => Finset.mem_univ _) (fun w s => le_of_eq (by simp))
    (fun g i h => ⟨Finset.mem_univ _, by have := SparseCore.Cfg.lev_of_Otc_pos h; omega⟩)
  pre := fun c => iprop(held (c.tc : Thread nD τ) (ucRefs τ sig) (W c) ∗ owing c)
  post := fun c => iprop(held (c.tc : Thread nD τ) (ucRefs τ sig) (afterRegion (dat (valsOf W) c) (W c)) ∗ owing c)
  X := fun _ => iprop(emp)
  Y := fun _ => iprop(emp)
  Z := fun c => held (c.tc : Thread nD τ) (ucRefs τ sig \ arrRefs spec0) (W c)
  hentry := fun c => by
    rw [StableHlo.held_sub_split (c.tc : Thread nD τ) arrs_sub (W c)]
    rw [Pipeline.arrays_held pcfgs adm (pdats W) 0 launch0.toP c (seg_share W c) ((pdats W 0 c).arrAt · 0) (W c) (fun _ => rfl)]
    rw [Pipeline.prefHeld_of_none _ rfl]
    iintro ⟨⟨⟨Ha, Hz⟩, %Wd, %hWd, HO⟩, -, -⟩
    imodintro
    isplitl [Ha]; · iexact Ha
    isplitr; · iempintro
    isplitl [HO]
    · iexists Wd
      isplitr
      · ipureintro; exact fun p hp => Or.inl (hWd p hp)
      iexact HO
    isplitr; · iempintro
    iexact Hz
  hin := seg_hin W
  hout := seg_hout W
  hexit := fun c => by
    rw [StableHlo.held_sub_split (c.tc : Thread nD τ) arrs_sub (afterRegion (dat (valsOf W) c) (W c)),
      StableHlo.held_congr (c.tc : Thread nD τ) (S := ucRefs τ sig \ arrRefs spec0) (V := afterRegion (dat (valsOf W) c) (W c)) (V' := W c)
        (Pipeline.afterRegion_off (dat (valsOf W) c) (W c) (ucRefs τ sig))]
    rw [Pipeline.arrays_held pcfgs adm (pdats W) 0 launch0.toP c (seg_share W c) _ (afterRegion (dat (valsOf W) c) (W c))
      (fun w => (Pipeline.afterRegion_arr (dat (valsOf W) c) (W c) launch0.win.arr_inj w).symm)]
    iintro ⟨Ha, ⟨%Wd, %hWd, HO⟩, -, Hz⟩
    imodintro
    isplitl [Ha Hz]
    · isplitl [Ha]
      · iexact Ha
      · iexact Hz
    iexists Wd
    isplitr
    · ipureintro
      intro p hp
      rcases hWd hp with h | ⟨w, s, rfl⟩
      · exact h
      · exact le_of_eq (by simp)
    iexact HO

end

end Cert.Proof.KI

end
-- ==== Proof.Tile.lean ====
/-
  One tile's task of the SparseCore call: it copies its eight indices in, gathers those eight rows of the table
  indirectly into its row buffer, and copies the rows out to its eight rows of the result. What the handshakes
  carry says the values: each task brings back its rows of the result at the table's rows its indices name.
-/
module

public import proofs.«01_k».proof.Proof.Setup

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev tLoc (d : Dev nD) : Loc nD τ sig := locOf d main_v5_1
abbrev iLoc (d : Dev nD) : Loc nD τ sig := locOf d main_v6
abbrev oLoc (d : Dev nD) : Loc nD τ sig := locOf d main_v7

theorem idiv : 32 ∣ S256.size 0 := ⟨8, rfl⟩
theorem odiv : 32 ∣ S256x128.size 0 := ⟨8, rfl⟩
abbrev irow (w : Fin 32) : Rect S256 := Rect.part (s := S256) (a₀ := 0) idiv w
abbrev orow (w : Fin 32) : Rect S256x128 := Rect.part (s := S256x128) (a₀ := 0) odiv w
abbrev iRowSet (w : Fin 32) : Finset S256.Idx := ((Memref.whole main_v6_scv : Memref sig .scVector .hbm S256 .i32).view.slice (irow w)).set
abbrev oRowSet (w : Fin 32) : Finset S256x128.Idx := ((Memref.whole main_v7_scv : Memref sig .scVector .hbm S256x128 .f32).view.slice (orow w)).set

/-- Task `w`'s share of the table: one of the 32 leaves of the full share. -/
abbrev tq (w : Fin 32) : PosShare TreeShare := ShareLeaves.leaf 5 fullShare w

/-- The number of the task on subcore `s` of core `c`. -/
def wid (c : Fin 2) (s : Fin 16) : Fin 32 := ⟨2 * s.val + c.val, by omega⟩

variable (tb : (d : Dev nD) → Buf (Elt F) (tLoc d)) (ix : (d : Dev nD) → Buf (Elt F) (iLoc d))

/-- Every index names a row of the table. -/
abbrev InRange : Prop := ∀ (d : Dev nD) (j : S256.Idx), (ix d j).toNat < 16384

/-- The gathered rows: row `j` of the result is the table's row `ix j`. -/
def gath (hix : InRange ix) (d : Dev nD) : Buf (Elt F) (oLoc d) :=
  fun j : S256x128.Idx => tb d (ix2 (n0 := 16384) (n1 := 128) ⟨(ix d (ix1 (n0 := 256) (j 0))).toNat, hix d _⟩ (j 1))

variable (oc : (d : Dev nD) → Buf (Elt F) (oLoc d)) (hix : InRange ix)

abbrev iRowPts (d : Dev nD) (w : Fin 32) : sProp 𝕄 := iLoc d ↦[iRowSet w]{fullShare} ix d
abbrev tShPts (d : Dev nD) (w : Fin 32) : sProp 𝕄 := tLoc d ↦{tq w} tb d
abbrev oRowPts (d : Dev nD) (w : Fin 32) (f : Buf (Elt F) (oLoc d)) : sProp 𝕄 := oLoc d ↦[oRowSet w]{fullShare} f

/-- What a task takes: its indices, its share of the table, its rows of the result. -/
abbrev goPts (d : Dev nD) (w : Fin 32) (f : Buf (Elt F) (oLoc d)) : sProp 𝕄 :=
  iprop(iRowPts ix d w ∗ tShPts tb d w ∗ oRowPts d w f)

abbrev cI (q : Fin 1) (c : Fin ((K (F := F)).nCore q)) : Fin 2 := match q with | 0 => c
abbrev sI (q : Fin 1) (i : Fin ((K (F := F)).nSub q)) : Fin 16 := match q with | 0 => i

/-- The call hands each core what its sixteen tasks take and takes back what they bring. -/
def P : (K (F := F)).Pay (nD := nD) (Val := Elt F) (Name := ℕ) (U := UU) where
  st := fun q d c => bigSep Finset.univ fun i => goPts tb ix d (wid (cI (F := F) q c) (sI (F := F) q i)) (oc d)
  dn := fun q d c => bigSep Finset.univ fun i => goPts tb ix d (wid (cI (F := F) q c) (sI (F := F) q i)) (gath tb ix hix d)
  go := fun q d c i => goPts tb ix d (wid (cI (F := F) q c) (sI (F := F) q i)) (oc d)
  td := fun q d c i => goPts tb ix d (wid (cI (F := F) q c) (sI (F := F) q i)) (gath tb ix hix d)
  x := fun _ _ => iprop(emp)

instance P_storable : (P (F := F) tb ix oc hix).IsStorable where
  st q d c := by unfold P; infer_instance
  dn q d c := by unfold P; infer_instance
  go q d c i := by unfold P; infer_instance
  td q d c i := by unfold P; infer_instance

theorem vecSplit : (K (F := F)).VecSplit' (P tb ix oc hix) 0 := by
  intro d c
  unfold P
  iintro H; imodintro
  isplitl [H]; · iexact H
  iintro H; iexact H

/-! ## The task -/

section Tile

variable (d : Dev nD) (L : grid1.Coords)

abbrev cV (L : grid1.Coords) : Fin τ.nSC := (L 0).castLE hcore1
abbrev jV (L : grid1.Coords) : Fin τ.nSub := (L 1).castLE hsub1
abbrev wL (L : grid1.Coords) : Fin 32 := wid (L 0) (L 1)

theorem wL_val : (wL L).val = 2 * (L 1).val + (L 0).val := rfl

abbrev irowK (L : grid1.Coords) : Rect S256 := Rect.unit (s := S256) (k1_off1 L) S8.size (k1_off1_inb L)
abbrev orowK (L : grid1.Coords) : Rect S256x128 := Rect.unit (s := S256x128) (k1_off2 L) S8x128.size (k1_off2_inb L)
abbrev iRowK (L : grid1.Coords) : Memref sig .scVector .hbm S8 .i32 := (Memref.whole main_v6_scv : Memref sig .scVector .hbm S256 .i32).slice (irowK L) (fun _ => rfl)
abbrev oRowK (L : grid1.Coords) : Memref sig .scVector .hbm S8x128 .f32 := (Memref.whole main_v7_scv : Memref sig .scVector .hbm S256x128 .f32).slice (orowK L) (fun _ => rfl)
abbrev tAllK : Memref sig .scVector .hbm S16384x128 .f32 :=
  (Memref.whole main_v5_1_scv : Memref sig .scVector .hbm S16384x128 .f32).slice (Rect.unit (s := S16384x128) ![0, 0] S16384x128.size inb_S16384x128_S16384x128_0_0) (fun _ => rfl)

theorem irowK_eq : irowK L = irow (wL L) := by
  unfold irowK irow Rect.part Rect.block
  congr 1 <;> funext a
  · rw [k1_off1_eq]
    match a with
    | 0 => simp [Shape.partIx, Shape.partSize, wL_val]; omega
  · match a with
    | 0 => simp [Shape.partSize]
theorem orowK_eq : orowK L = orow (wL L) := by
  unfold orowK orow Rect.part Rect.block
  congr 1 <;> funext a
  · rw [k1_off2_eq]
    match a with
    | 0 => simp [Shape.partIx, Shape.partSize, wL_val]; omega
    | 1 => simp [Shape.partIx, Shape.partSize]
  · match a with
    | 0 => simp [Shape.partSize]
    | 1 => simp [Shape.partSize]

theorem set_iRowK : (iRowK L).view.set = iRowSet (wL L) := by
  show ((Memref.whole main_v6_scv : Memref sig .scVector .hbm S256 .i32).view.slice (irowK L)).set = ((Memref.whole main_v6_scv : Memref sig .scVector .hbm S256 .i32).view.slice (irow (wL L))).set
  exact irowK_eq L ▸ rfl
theorem set_oRowK : (oRowK L).view.set = oRowSet (wL L) := by
  show ((Memref.whole main_v7_scv : Memref sig .scVector .hbm S256x128 .f32).view.slice (orowK L)).set = ((Memref.whole main_v7_scv : Memref sig .scVector .hbm S256x128 .f32).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((Memref.whole main_v5_1_scv : Memref sig .scVector .hbm S16384x128 .f32).view.loc (V d (cV L) (jV L)) ↦{q} f : sProp 𝕄) = tLoc d ↦{q} f := rfl
theorem pts_sV (f : Buf (Elt F) ((V d (cV L) (jV L)).loc cc1_scratch0)) :
    ((Memref.whole cc1_scratch0 : Memref sig .scVector .vmem S8 .i32).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((Memref.whole cc1_scratch1 : Memref sig .scVector .vmem S8x128 .f32).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What the index copy lands: entry `k` of the task's eight. -/
theorem iRow_read (k : S8.Idx) :
    (iRowK L).view.read (Elt F) (ix d) k = ix d (ix1 (n0 := 256) ⟨8 * (wL L).val + (k 0).val, by
      have h1 := (wL L).isLt; have h2 : (k 0).val < 8 := (k 0).isLt; omega⟩) := by
  rw [View.read_apply]
  refine (cast_eq _ _).trans (congrArg (ix d) ?_)
  funext a
  match a with
  | 0 =>
    apply Fin.ext
    show (k1_off1 L) 0 + 1 * (k 0).val = _
    rw [k1_off1_eq]; simp [wL_val]; omega

/-- The index scratch written whole reads back what was written. -/
theorem sread (fs : Buf (Elt F) ((V d (cV L) (jV L)).loc cc1_scratch0)) (pay : S8.Idx → Elt F .i32) :
    (Memref.whole cc1_scratch0 : Memref sig .scVector .vmem S8 .i32).view.read (Elt F) (View.write (Elt F) (Memref.whole cc1_scratch0 : Memref sig .scVector .vmem S8 .i32).view fs pay Finset.univ) = pay := by
  rw [View.write_whole_univ]
  simp only [Memref.view_whole, View.read_whole]

/-- The row scratch written whole reads back what was written. -/
theorem rread (fr : Buf (Elt F) ((V d (cV L) (jV L)).loc cc1_scratch1)) (pay : S8x128.Idx → Elt F .f32) :
    (Memref.whole cc1_scratch1 : Memref sig .scVector .vmem S8x128 .f32).view.read (Elt F) (View.write (Elt F) (Memref.whole cc1_scratch1 : Memref sig .scVector .vmem S8x128 .f32).view fr pay Finset.univ) = pay := by
  rw [View.write_whole_univ]
  simp only [Memref.view_whole, View.read_whole]

/-- The indices the gather reads are in range: they are the task's entries of the index array. -/
theorem inb_of_pre (fs : Buf (Elt F) ((V d (cV L) (jV L)).loc cc1_scratch0)) (pay : S8.Idx → Elt F .i32)
    (hpay : pay = (iRowK L).view.read (Elt F) (ix d)) (hix : InRange ix) :
    ∀ x, ((Memref.whole cc1_scratch0 : Memref sig .scVector .vmem S8 .i32).view.read (Elt F) (View.write (Elt F) (Memref.whole cc1_scratch0 : Memref sig .scVector .vmem S8 .i32).view fs pay Finset.univ) x).toNat < S16384x128.size gathers_S16384x128_S8x128.axis := by
  subst hpay; intro x
  rw [View.write_whole_univ]
  simp only [Memref.view_whole, View.read_whole]
  rw [iRow_read]
  exact hix d _

/-- What the gather lands, copied out, is the task's rows of the gathered rows. -/
theorem out_eq (fs : Buf (Elt F) ((V d (cV L) (jV L)).loc cc1_scratch0)) (pay : S8.Idx → Elt F .i32)
    (hpay : pay = (iRowK L).view.read (Elt F) (ix d)) (hix : InRange ix) (f : Buf (Elt F) (oLoc d)) (pay' : S8x128.Idx → Elt F .f32)
    (hpay' : pay' = SparseCore.gatherPayload gathers_S16384x128_S8x128 (tAllK.view.read (Elt F) (tb d))
        (SparseCore.rows ((Memref.whole cc1_scratch0 : Memref sig .scVector .vmem S8 .i32).view.read (Elt F) (View.write (Elt F) (Memref.whole cc1_scratch0 : Memref sig .scVector .vmem S8 .i32).view fs pay Finset.univ)) rfl
          (inb_of_pre ix d L fs pay hpay hix))) :
    ∀ j ∈ oRowSet (wL L), (oRowK L).view.writes (Elt F) f [⟨Rect.whole S8x128, pay'⟩] j = gath tb ix hix d j := by
  intro j hj
  rw [← set_oRowK] at hj
  rw [show (oRowK L).view.writes (Elt F) f [⟨Rect.whole S8x128, pay'⟩] = View.write (Elt F) (oRowK L).view f pay' Finset.univ from
    (View.write_univ_eq_writes_whole (oRowK L).view f [] pay').symm]
  obtain ⟨k, -, rfl⟩ := Finset.mem_map.mp hj
  rw [View.write_emb_of_mem _ _ (Finset.mem_univ k), cast_eq, hpay']
  unfold SparseCore.gatherPayload gath
  rw [View.read_apply, cast_eq]
  refine congrArg (tb d) ?_
  subst hpay
  have hk : (k 0).val < 8 := (k 0).isLt
  have hw := (wL L).isLt
  have hrow : (((oRowK L).view.emb k) 0).val = 8 * (wL L).val + (k 0).val := by
    show (k1_off2 L) 0 + 1 * (k 0).val = _
    rw [k1_off2_eq]; simp [wL_val]; omega
  have hcol : (((oRowK L).view.emb k) 1).val = (k 1).val := by
    show (k1_off2 L) 1 + 1 * (k 1).val = _
    rw [k1_off2_eq]; simp
  funext a
  match a with
  | 0 =>
    apply Fin.ext
    show 0 + 1 * (Shape.Gathers.idx gathers_S16384x128_S8x128 _ k (Shape.Gathers.axis gathers_S16384x128_S8x128)).val = _
    rw [Shape.Gathers.idx_axis]
    rw [zero_add, one_mul]
    refine (congrArg BitVec.toNat (congrFun (sread d L fs _) _)).trans ?_
    refine (congrArg BitVec.toNat (iRow_read ix d L _)).trans ?_
    refine congrArg (fun z => (ix d z).toNat) ?_
    refine congrArg (ix1 (n0 := 256)) (Fin.ext ?_)
    rw [hrow]
    have : ∀ (y : Fin 8), ((S8.rowMajor.symm (y.cast rfl)) 0).val = y.val := by decide
    show 8 * (wL L).val + _ = _
    exact congrArg (8 * (wL L).val + ·) (this (k 0))
  | 1 =>
    apply Fin.ext
    show 0 + 1 * (Shape.Gathers.idx gathers_S16384x128_S8x128 _ k 1).val = _
    rw [Shape.Gathers.idx_of_ne _ _ _ _ (by decide), zero_add, one_mul]
    exact hcol.symm

theorem pts_out (fs : Buf (Elt F) ((V d (cV L) (jV L)).loc cc1_scratch0)) (hix : InRange ix) (f : Buf (Elt F) (oLoc d)) (pay' : S8x128.Idx → Elt F .f32)
    (hpay' : pay' = SparseCore.gatherPayload gathers_S16384x128_S8x128 (tAllK.view.read (Elt F) (tb d))
        (SparseCore.rows ((Memref.whole cc1_scratch0 : Memref sig .scVector .vmem S8 .i32).view.read (Elt F) (View.write (Elt F) (Memref.whole cc1_scratch0 : Memref sig .scVector .vmem S8 .i32).view fs ((iRowK L).view.read (Elt F) (ix d)) Finset.univ)) rfl
          (inb_of_pre ix d L fs _ rfl hix))) :
    ((oRowK L).view.loc (V d (cV L) (jV L)) ↦[(oRowK L).view.set]{fullShare} (oRowK L).view.writes (Elt F) f [⟨Rect.whole S8x128, pay'⟩] : sProp 𝕄)
      = oRowPts d (wL L) (gath tb ix hix d) :=
  (pts_oRowK d L _).trans (pointsTo_congr (out_eq tb ix d L fs _ rfl hix f pay' hpay'))

end Tile

end Cert.Proof.KI

end
-- ==== Proof.Split.lean ====
/-
  The SparseCore call's operands as @main holds them and as its 32 tasks hold them: the index list and the result by
  rows, the table by shares.
-/
module

public import proofs.«01_k».proof.Proof.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem iRowSet_part (w : Fin 32) : iRowSet w = (irow w).set := by
  show ((View.whole (main_v6_scv : Ref sig .scVector)).slice (irow w)).set = _
  rw [View.set_slice]; exact Finset.map_refl

theorem oRowSet_part (w : Fin 32) : oRowSet w = (orow w).set := by
  show ((View.whole (main_v7_scv : Ref sig .scVector)).slice (orow w)).set = _
  rw [View.set_slice]; exact Finset.map_refl

theorem i_whole (d : Dev nD) (f : Buf (Elt F) (iLoc d)) :
    (iLoc d ↦{fullShare} f : sProp 𝕄) = bigSep Finset.univ fun w : Fin 32 => iLoc d ↦[iRowSet w]{fullShare} f := by
  have hd : ∀ i ∈ (Finset.univ : Finset (Fin 32)), ∀ j ∈ (Finset.univ : Finset (Fin 32)), i ≠ j → Disjoint (iRowSet i) (iRowSet j) :=
    fun i _ j _ h => by rw [iRowSet_part, iRowSet_part]; exact Rect.part_disjoint idiv h
  have hc : (Finset.univ : Finset (Fin 32)).biUnion iRowSet = Finset.univ :=
    (Finset.biUnion_congr rfl fun i _ => iRowSet_part i).trans (Rect.biUnion_part idiv)
  rw [← pointsTo_biUnion Finset.univ (ℓ := iLoc d) iRowSet hd, hc]; try rfl

theorem o_whole (d : Dev nD) (f : Buf (Elt F) (oLoc d)) :
    (oLoc d ↦{fullShare} f : sProp 𝕄) = bigSep Finset.univ fun w : Fin 32 => oLoc d ↦[oRowSet w]{fullShare} f := by
  have hd : ∀ i ∈ (Finset.univ : Finset (Fin 32)), ∀ j ∈ (Finset.univ : Finset (Fin 32)), i ≠ j → Disjoint (oRowSet i) (oRowSet j) :=
    fun i _ j _ h => by rw [oRowSet_part, oRowSet_part]; exact Rect.part_disjoint odiv h
  have hc : (Finset.univ : Finset (Fin 32)).biUnion oRowSet = Finset.univ :=
    (Finset.biUnion_congr rfl fun i _ => oRowSet_part i).trans (Rect.biUnion_part odiv)
  rw [← pointsTo_biUnion Finset.univ (ℓ := oLoc d) oRowSet hd, hc]; try rfl

theorem t_whole (d : Dev nD) (f : Buf (Elt F) (tLoc d)) :
    (tLoc d ↦{fullShare} f : sProp 𝕄) = bigSep Finset.univ fun w : Fin 32 => tLoc d ↦{tq w} f :=
  ShareLeaves.pointsTo_leaves Finset.univ f 5 fullShare

/-- The tasks, by core and subcore. -/
def tasks : Fin 2 × Fin 16 ≃ Fin 32 where
  toFun p := wid p.1 p.2
  invFun w := (⟨w.val % 2, by omega⟩, ⟨w.val / 2, by omega⟩)
  left_inv p := by
    obtain ⟨⟨a, ha⟩, ⟨b, hb⟩⟩ := p
    unfold wid
    ext <;> simp <;> omega
  right_inv w := by
    apply Fin.ext
    show 2 * (w.val / 2) + w.val % 2 = w.val
    omega

theorem by_task (Φ : Fin 32 → sProp 𝕄) :
    bigSep Finset.univ Φ = bigSep Finset.univ fun c : Fin 2 => bigSep Finset.univ fun s : Fin 16 => Φ (wid c s) := by
  rw [bigSep_univ_equiv tasks, bigSep_univ_prod]; rfl

variable (tb : (d : Dev nD) → Buf (Elt F) (tLoc d)) (ix : (d : Dev nD) → Buf (Elt F) (iLoc d))

/-- The three arrays whole are every task's part. -/
theorem whole_tasks (d : Dev nD) (f : Buf (Elt F) (oLoc d)) :
    (iprop((iLoc d ↦{fullShare} ix d) ∗ (tLoc d ↦{fullShare} tb d) ∗ oLoc d ↦{fullShare} f) : sProp 𝕄)
      = bigSep Finset.univ fun c : Fin 2 => bigSep Finset.univ fun s : Fin 16 => goPts tb ix d (wid c s) f := by
  rw [← by_task (fun w => goPts tb ix d w f), bigSep_sep', bigSep_sep', i_whole, t_whole, o_whole]

variable (oc : (d : Dev nD) → Buf (Elt F) (oLoc d)) (hix : InRange ix)

theorem st_eq (d : Dev nD) : (bigSep Finset.univ fun c : Fin ((K (F := F)).nCore 0) => (P (F := F) tb ix oc hix).st 0 d c)
    = iprop((iLoc d ↦{fullShare} ix d) ∗ (tLoc d ↦{fullShare} tb d) ∗ oLoc d ↦{fullShare} oc d) :=
  (whole_tasks tb ix d (oc d)).symm

theorem dn_eq (d : Dev nD) : (bigSep Finset.univ fun c : Fin ((K (F := F)).nCore 0) => (P (F := F) tb ix oc hix).dn 0 d c)
    = iprop((iLoc d ↦{fullShare} ix d) ∗ (tLoc d ↦{fullShare} tb d) ∗ oLoc d ↦{fullShare} gath tb ix hix d) :=
  (whole_tasks tb ix d (gath tb ix hix d)).symm

end Cert.Proof.KI

end
-- ==== Proof.TileBody.lean ====
/-
  The task's run on a vector subcore and the obligation the launch asks of the SparseCore call.
-/
module

public import proofs.«01_k».proof.Proof.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (tb : (d : Dev nD) → Buf (Elt F) (tLoc d)) (ix : (d : Dev nD) → Buf (Elt F) (iLoc d))
variable (oc : (d : Dev nD) → Buf (Elt F) (oLoc d)) (hix : InRange ix)
variable (d : Dev nD) (L : grid1.Coords)

set_option maxHeartbeats 1000000 in
/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ goPts tb ix d (wL L) (oc d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v5_1_scv : Memref sig .scVector .hbm S16384x128 .f32) (Memref.isWhole_whole _) (Memref.whole main_v6_scv : Memref sig .scVector .hbm S256 .i32) (Memref.isWhole_whole _) (Memref.whole main_v7_scv : Memref sig .scVector .hbm S256x128 .f32) (Memref.isWhole_whole _)
            (Memref.whole cc1_scratch0 : Memref sig .scVector .vmem S8 .i32) (Memref.isWhole_whole _) (Memref.whole cc1_scratch1 : Memref sig .scVector .vmem S8x128 .f32) (Memref.isWhole_whole _) cc1_scratch2 cc1_scoped0 cc1_scoped1)
          fun _ => iprop(goPts tb ix d (wL L) (gath tb ix hix d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  have hN : ∀ h : S16384x128.Gathers 0 S8x128, ∑ j, ((Memref.whole cc1_scratch1 : Memref sig .scVector .vmem S8x128 .f32).slice (S8x128.rowRect h.axis' j) (S8x128.stride_rowRect h.axis' j)).view.dmaCredit
      = (Memref.whole cc1_scratch1 : Memref sig .scVector .vmem S8x128 .f32).view.dmaCredit := by decide
  iapply (SparseCore.wp_gatherFromWhole countersEmb 𝒱₀ (V d (cV L) (jV L)) none (src := tAllK) (hg := gathers_S16384x128_S8x128) (default : HIx 1)
      (Memref.whole cc1_scratch1 : Memref sig .scVector .vmem S8x128 .f32).view.dmaCredit (hN _) (by decide) (inb_of_pre ix d L fs _ rfl hix)) $$ [Hx' Hr' Hs' HsemB]
  · isplitl [Hx']; · iexact Hx'
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (Memref.whole cc1_scratch1 : Memref sig .scVector .vmem S8x128 .f32).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hx', Hs'⟩, HsemB, HO⟩
  sl_exec
  sl_step
  have hp : tile_body.sl.dma0_1 tb ix hix d L fs fr = SparseCore.gatherPayload gathers_S16384x128_S8x128 (tAllK.view.read (Elt F) (tb d))
      (SparseCore.rows ((Memref.whole cc1_scratch0 : Memref sig .scVector .vmem S8 .i32).view.read (Elt F) (View.write (Elt F) (Memref.whole cc1_scratch0 : Memref sig .scVector .vmem S8 .i32).view fs ((iRowK L).view.read (Elt F) (ix d)) Finset.univ)) rfl
        (inb_of_pre ix d L fs _ rfl hix)) := by
    delta tile_body.sl.dma0_1
    exact rread d L fr _
  have ho := pts_out tb ix d L fs hix (oc d) _ hp
  isplitl [Hi' Hx' Ho']
  · isplitl [Hi']; · iapply (Entails.of_eq (pts_iRowK (F := F) d L _)); iexact Hi'
    isplitl [Hx']; · iexact Hx'
    iapply (Entails.of_eq ho); iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather_body (coordsV c s)
          (Memref.whole main_v5_1_scv : Memref sig .scVector .hbm S16384x128 .f32) (Memref.isWhole_whole _) (Memref.whole main_v6_scv : Memref sig .scVector .hbm S256 .i32) (Memref.isWhole_whole _) (Memref.whole main_v7_scv : Memref sig .scVector .hbm S256x128 .f32) (Memref.isWhole_whole _)
          (Memref.whole cc1_scratch0 : Memref sig .scVector .vmem S8 .i32) (Memref.isWhole_whole _) (Memref.whole cc1_scratch1 : Memref sig .scVector .vmem S8x128 .f32) (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P tb ix oc hix) v₀ 0 := by
  intro d c i O W hO _ _
  simp only [show (P tb ix oc hix).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix oc hix d (coordsV ⟨_, hci.1⟩ ⟨_, hci.2⟩) hF O W hO).trans (wp_mono frame _ _ fun _ => obl_post)

end Cert.Proof.KI

end
-- ==== Proof.Main.lean ====
/-
  @main on the TensorCore, and the program's run: the host operations, the TensorCore kernel's region, the SparseCore
  call, and what the arrays hold after each.
-/
module

public import proofs.«01_k».proof.Proof.Seg
public import proofs.«01_k».proof.Proof.Split
public import proofs.«01_k».proof.Proof.TileBody
public import Idealize.ShloMosaic.Lib.SparseCore.Quiescent

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf arrRefs ucRefs afterRegion)
open Idealize.ShloMosaic.StableHlo (held wp_hlo_within)
open Idealize.ShloMosaic.Rounds

local notation "𝕄" => MT nD τ sig (HIx 1) (Elt Ideal) ℕ UU ℕ

section
variable [Cert.KernelIdeal.Facts]

abbrev opW1 : HloOp τ sig (Elt Ideal) := StableHlo.unary main_arg2 main_v0 ((transpose S256x6 [1, 0] · transposes_S6x256_S256x6_1_0) : (⟨S6x256, .f32⟩ : BufTy).Contents (Elt Ideal) → (⟨S256x6, .f32⟩ : BufTy).Contents (Elt Ideal))
abbrev opW2 : HloOp τ sig (Elt Ideal) := StableHlo.unary main_arg4 main_v1 ((transpose S256x256 [1, 0] · transposes_S256x256_S256x256_1_0) : (⟨S256x256, .f32⟩ : BufTy).Contents (Elt Ideal) → (⟨S256x256, .f32⟩ : BufTy).Contents (Elt Ideal))
abbrev opW3 : HloOp τ sig (Elt Ideal) := StableHlo.unary main_arg6 main_v2 ((transpose S1x256 [1, 0] · transposes_S256x1_S1x256_1_0) : (⟨S256x1, .f32⟩ : BufTy).Contents (Elt Ideal) → (⟨S1x256, .f32⟩ : BufTy).Contents (Elt Ideal))
abbrev opB1 : HloOp τ sig (Elt Ideal) := StableHlo.unary main_arg3 main_v3 (broadcastInDim S256x1 ![0] bcast_S256_S256x1_0 : (⟨S256, .f32⟩ : BufTy).Contents (Elt Ideal) → (⟨S256x1, .f32⟩ : BufTy).Contents (Elt Ideal))
abbrev opB2 : HloOp τ sig (Elt Ideal) := StableHlo.unary main_arg5 main_v4 (broadcastInDim S256x1 ![0] bcast_S256_S256x1_0 : (⟨S256, .f32⟩ : BufTy).Contents (Elt Ideal) → (⟨S256x1, .f32⟩ : BufTy).Contents (Elt Ideal))
abbrev opFlat : HloOp τ sig (Elt Ideal) := StableHlo.reshape main_v5_0 main_v6 (rfl : (.i32 : EltTy) = .i32) shapeCasts_S2x128_S256
abbrev opCut : HloOp τ sig (Elt Ideal) := StableHlo.unary main_v7 main_v8 ((extractStridedSlice S256x48 ![0, 0] · slices_S256x128_S256x48_0_0) : (⟨S256x128, .f32⟩ : BufTy).Contents (Elt Ideal) → (⟨S256x48, .f32⟩ : BufTy).Contents (Elt Ideal))
abbrev opGroup : HloOp τ sig (Elt Ideal) := StableHlo.reshape main_v8 main_v9 (rfl : (.f32 : EltTy) = .f32) shapeCasts_S256x48_S256x8x6
abbrev opTurn : HloOp τ sig (Elt Ideal) := StableHlo.unary main_v9 main_v10 ((transpose S8x256x6 [1, 0, 2] · transposes_S256x8x6_S8x256x6_1_0_2) : (⟨S256x8x6, .f32⟩ : BufTy).Contents (Elt Ideal) → (⟨S8x256x6, .f32⟩ : BufTy).Contents (Elt Ideal))

variable (m : (ℓ : Loc nD τ sig) → Buf (Elt Ideal) ℓ) (ρ : Dev nD → PrngReg)

/-- The arrays at launch, -/
def W0 (d : Dev nD) : Valuation τ sig (Elt Ideal) := fun b => m (d, b)
/-- at the region's entry, -/
abbrev W1 (d : Dev nD) : Valuation τ sig (Elt Ideal) := opB2.result (opB1.result (opW3.result (opW2.result (opW1.result (W0 m d)))))
/-- at its exit, -/
def W2 (d : Dev nD) : Valuation τ sig (Elt Ideal) := afterRegion (dat (valsOf (W1 m)) d) (W1 m d)
/-- at the SparseCore call, -/
abbrev W3 (d : Dev nD) : Valuation τ sig (Elt Ideal) := opFlat.result (W2 m d)

/-- The call's index list, table, and the contents its result array has before it. -/
abbrev ixOf (d : Dev nD) : Buf (Elt Ideal) (iLoc d) := W3 m d (Proc.devRef .tc main_v6)
abbrev tbOf (d : Dev nD) : Buf (Elt Ideal) (tLoc d) := W3 m d (Proc.devRef .tc main_v5_1)
abbrev ocOf (d : Dev nD) : Buf (Elt Ideal) (oLoc d) := W3 m d (Proc.devRef .tc main_v7)

variable (hix : InRange (ixOf m))

abbrev PM : (K (F := Ideal)).Pay (nD := nD) (Val := Elt Ideal) (Name := ℕ) (U := UU) := P (tbOf m) (ixOf m) (ocOf m) hix

/-- after the call, -/
def W4 (d : Dev nD) : Valuation τ sig (Elt Ideal) := Function.update (W3 m d) (Proc.devRef .tc main_v7) (gath (tbOf m) (ixOf m) hix d)
/-- and at the end. -/
abbrev W5 (d : Dev nD) : Valuation τ sig (Elt Ideal) := opTurn.result (opGroup.result (opCut.result (W4 m hix d)))

/-- The call's three arrays. -/
def S3 : Finset (DevRef τ sig) := {Proc.devRef .tc main_v6, Proc.devRef .tc main_v5_1, Proc.devRef .tc main_v7}

theorem S3_sub : S3 ⊆ ucRefs τ sig := by decide

theorem held_S3 (d : Dev nD) (V : Valuation τ sig (Elt Ideal)) :
    (held (T d) S3 V : sProp 𝕄) = iprop((iLoc d ↦{fullShare} V (Proc.devRef .tc main_v6)) ∗ (tLoc d ↦{fullShare} V (Proc.devRef .tc main_v5_1))
      ∗ oLoc d ↦{fullShare} V (Proc.devRef .tc main_v7)) := by
  unfold held S3
  rw [SparseCore.bigSep_insert' (by decide), SparseCore.bigSep_insert' (by decide), bigSep_singleton]

/-- Everything before the call: the call's operands and the rest. -/
theorem before_call (d : Dev nD) : (held (T d) (ucRefs τ sig) (W3 m d) : sProp 𝕄)
    = iprop((bigSep Finset.univ fun c : Fin ((K (F := Ideal)).nCore 0) => (PM m hix).st 0 d c) ∗ held (T d) (ucRefs τ sig \ S3) (W3 m d)) := by
  rw [StableHlo.held_sub_split (T d) S3_sub (W3 m d), held_S3, st_eq]

/-- Everything after it. -/
theorem after_call (d : Dev nD) : iprop((bigSep Finset.univ fun c : Fin ((K (F := Ideal)).nCore 0) => (PM m hix).dn 0 d c)
      ∗ held (T d) (ucRefs τ sig \ S3) (W3 m d)) = (held (T d) (ucRefs τ sig) (W4 m hix d) : sProp 𝕄) := by
  rw [StableHlo.held_sub_split (T d) S3_sub (W4 m hix d), held_S3, dn_eq]
  rw [show W4 m hix d (Proc.devRef .tc main_v7) = gath (tbOf m) (ixOf m) hix d from Function.update_self _ _ _,
    show W4 m hix d (Proc.devRef .tc main_v6) = ixOf m d from Function.update_of_ne (by decide) _ _,
    show W4 m hix d (Proc.devRef .tc main_v5_1) = tbOf m d from Function.update_of_ne (by decide) _ _]
  rw [StableHlo.held_congr (T d) (S := ucRefs τ sig \ S3) (V := W4 m hix d) (V' := W3 m d)]
  intro b hb
  refine Function.update_of_ne ?_ _ _
  rintro rfl
  exact (Finset.mem_sdiff.mp hb).2 (by decide)

theorem unscoped_held (d : Dev nD) : (unscopedBufs d (fun b => m ((SparseCore.T d).loc b)) : sProp 𝕄) = held (T d) (ucRefs τ sig) (W0 m d) :=
  Pipeline.unscopedBufs_held d (W0 m d)

/-- The pipeline's ghost state on one core. -/
abbrev ghost (d : Dev nD) : sProp 𝕄 :=
  iprop(Pipeline.cellsGhost (Pipeline.pin (pcfgs (F := Ideal)) adm) EP 0 d ∗ Pipeline.toksInit (Pipeline.pin (pcfgs (F := Ideal)) adm) EP 0 d)

/-- What @main leaves: every unscoped array at its last contents. -/
abbrev FIN (d : Dev nD) : sProp 𝕄 := held (T d) (ucRefs τ sig) (W5 m hix d)

/-- What the TensorCore carries before the call: what it owes and the rest. -/
theorem tcSt_split (d : Dev nD) : ∃ R : sProp 𝕄, (K (F := Ideal)).tcSt EH d 0 = iprop(owing d ∗ R) := ⟨_, rfl⟩

theorem seg_pre (d : Dev nD) : (seg (W1 m)).pre d = iprop(held (T d) (ucRefs τ sig) (W1 m d) ∗ owing d) := rfl
theorem seg_post (d : Dev nD) : (seg (W1 m)).post d = iprop(held (T d) (ucRefs τ sig) (W2 m d) ∗ owing d) := rfl

/-- The kernel's launch as @main's region call lifted. -/
theorem lift_call : (Prog.lift (.customCall (SparseCore.inner (Pipeline.entry 0)) ()) :
      Prog (TpuEff nD τ sig (Elt Ideal) (SparseCore.Sig (ΛP (F := Ideal)) 1) .tc) PUnit)
    = SparseCore.liftProg (Q := 1) (pr := .tc) (Λ := ΛP (F := Ideal)) (nD := nD) (sig := sig) (Val := Elt Ideal) (.op (.customCall (Pipeline.entry 0) ()) .ret) := rfl

theorem region_call (d : Dev nD) (Q : PUnit → sProp 𝕄) :
    iprop(boundary (T d) ∗ held (T d) (ucRefs τ sig) (W1 m d) ∗ owing d ∗ levAts (K (F := Ideal)).L ((K (F := Ideal)).lev (N := 1)) ∗ ghost d
        ∗ ((boundary (T d) ∗ held (T d) (ucRefs τ sig) (W2 m d) ∗ owing d) -∗ Q ⟨⟩))
      ⊢ wp frame (wpE ((K (F := Ideal)).defs (D (F := Ideal))) 𝒱 (T d) none) Set.univ
          (Prog.lift (.customCall (SparseCore.inner (Pipeline.entry 0)) ())) Q := by
  rw [lift_call]
  refine BIBase.Entails.trans ?_ ((K (F := Ideal)).wp_liftProg (D (F := Ideal)) 𝒱 (T d) Set.univ none (.op (.customCall (Pipeline.entry 0) ()) .ret) Q)
  refine BIBase.Entails.trans ?_ (Pipeline.RegionSeg.wp (pcfgs (F := Ideal)) adm (pdats (W1 m)) none cellOf_inj EP (defs₀ (F := Ideal)) 𝒱₀
    (K (F := Ideal)).L ((K (F := Ideal)).lev (N := 1)) (seg (W1 m)) d none (fun _ h => nomatch h) .ret Q)
  rw [seg_pre, seg_post]
  iintro ⟨Hb, Hh, HO, HL, ⟨Hg, Ht⟩, HQ⟩
  isplitl [HQ]
  · iintro ⟨Hb, Hh, HO⟩
    rw [wp_ret]
    imodintro
    iapply HQ
    isplitl [Hb]; · iexact Hb
    isplitl [Hh]; · iexact Hh
    iexact HO
  isplitl [Hb]; · iexact Hb
  isplitl [Hh HO]
  · isplitl [Hh]; · iexact Hh
    iexact HO
  isplitl [HL]; · iexact HL
  isplitl [Hg]; · iexact Hg
  iexact Ht

/-- @main on device `d`'s TensorCore. -/
theorem hmain (κ : GSem nD τ sig → ℕ) (d : Dev nD) :
    iprop((K (F := Ideal)).ctx EH (PM m hix) κ ∗ (K (F := Ideal)).tcSt EH d 0 ∗ (K (F := Ideal)).tcRes m ρ d ∗ ghost d)
      ⊢ wp frame (wpE ((K (F := Ideal)).defs (D (F := Ideal))) 𝒱 (SparseCore.T d) none) Set.univ (main (F := Ideal) d)
          fun _ => iprop((K (F := Ideal)).tcSt EH d 1 ∗ FIN m hix d ∗ (K (F := Ideal)).tcEnd d) := by
  unfold SparseCore.Cfg.tcRes SparseCore.Cfg.tcEnd
  rw [unscoped_held]
  simp only [main, wp_bind, wp_pure]
  iintro ⟨#Hctx, Hst, ⟨Hb, Hheld, Hts, -⟩, Hg⟩
  iapply (wp_hlo_within 𝒱 (SparseCore.T d) none Set.univ (op := opW1) (S := ucRefs τ sig) (Pipeline.sub_ucRefs _ (StableHlo.unary_bufs_sub ..)) (V := W0 m d)) $$ [Hb Hheld]
  · isplitl [Hb] <;> iassumption
  iintro ⟨Hb, Hheld⟩
  rw [wp_ret]; imodintro
  iapply (wp_hlo_within 𝒱 (SparseCore.T d) none Set.univ (op := opW2) (S := ucRefs τ sig) (Pipeline.sub_ucRefs _ (StableHlo.unary_bufs_sub ..)) (V := opW1.result (W0 m d))) $$ [Hb Hheld]
  · isplitl [Hb] <;> iassumption
  iintro ⟨Hb, Hheld⟩
  rw [wp_ret]; imodintro
  iapply (wp_hlo_within 𝒱 (SparseCore.T d) none Set.univ (op := opW3) (S := ucRefs τ sig) (Pipeline.sub_ucRefs _ (StableHlo.unary_bufs_sub ..)) (V := opW2.result (opW1.result (W0 m d)))) $$ [Hb Hheld]
  · isplitl [Hb] <;> iassumption
  iintro ⟨Hb, Hheld⟩
  rw [wp_ret]; imodintro
  iapply (wp_hlo_within 𝒱 (SparseCore.T d) none Set.univ (op := opB1) (S := ucRefs τ sig) (Pipeline.sub_ucRefs _ (StableHlo.unary_bufs_sub ..)) (V := opW3.result (opW2.result (opW1.result (W0 m d))))) $$ [Hb Hheld]
  · isplitl [Hb] <;> iassumption
  iintro ⟨Hb, Hheld⟩
  rw [wp_ret]; imodintro
  iapply (wp_hlo_within 𝒱 (SparseCore.T d) none Set.univ (op := opB2) (S := ucRefs τ sig) (Pipeline.sub_ucRefs _ (StableHlo.unary_bufs_sub ..)) (V := opB1.result (opW3.result (opW2.result (opW1.result (W0 m d)))))) $$ [Hb Hheld]
  · isplitl [Hb] <;> iassumption
  iintro ⟨Hb, Hheld⟩
  rw [wp_ret]; imodintro
  obtain ⟨R, hR⟩ := tcSt_split d
  ihave Hs := (BIBase.Entails.of_eq hR) $$ Hst
  icases Hs with ⟨HO, Hrest⟩
  ihave HL := (SparseCore.Cfg.ctx_levAts κ) $$ Hctx
  iapply (region_call m d)
  isplitl [Hb]; · iexact Hb
  isplitl [Hheld]; · iexact Hheld
  isplitl [HO]; · iexact HO
  isplitl [HL]; · iexact HL
  isplitl [Hg]; · iexact Hg
  iintro ⟨Hb, Hheld, HO⟩
  iapply (wp_hlo_within 𝒱 (SparseCore.T d) none Set.univ (op := opFlat) (S := ucRefs τ sig) (Pipeline.sub_ucRefs _ (StableHlo.reshape_bufs_sub ..)) (V := W2 m d)) $$ [Hb Hheld]
  · isplitl [Hb] <;> iassumption
  iintro ⟨Hb, Hheld⟩
  rw [wp_ret]; imodintro
  ihave Hh := (Entails.of_eq (before_call m hix d)) $$ Hheld
  icases Hh with ⟨Hcall, Hoff⟩
  iapply ((K (F := Ideal)).wp_run (D (F := Ideal)) 𝒱 (EH := EH) (P := PM m hix) κ d 0) $$ [HO Hrest Hcall Hoff Hb Hts]
  isplitr; · iexact Hctx
  isplitl [HO Hrest]
  · iapply (BIBase.Entails.of_eq hR.symm)
    isplitl [HO]; · iexact HO
    iexact Hrest
  isplitl [Hcall]; · iexact Hcall
  iintro ⟨Hst, Hdn⟩
  ihave Hheld := (Entails.of_eq (after_call m hix d)) $$ [Hdn Hoff]
  · isplitl [Hdn] <;> iassumption
  iapply (wp_hlo_within 𝒱 (SparseCore.T d) none Set.univ (op := opCut) (S := ucRefs τ sig) (Pipeline.sub_ucRefs _ (StableHlo.unary_bufs_sub ..)) (V := W4 m hix d)) $$ [Hb Hheld]
  · isplitl [Hb] <;> iassumption
  iintro ⟨Hb, Hheld⟩
  rw [wp_ret]; imodintro
  iapply (wp_hlo_within 𝒱 (SparseCore.T d) none Set.univ (op := opGroup) (S := ucRefs τ sig) (Pipeline.sub_ucRefs _ (StableHlo.reshape_bufs_sub ..)) (V := opCut.result (W4 m hix d))) $$ [Hb Hheld]
  · isplitl [Hb] <;> iassumption
  iintro ⟨Hb, Hheld⟩
  rw [wp_ret]; imodintro
  iapply (wp_hlo_within 𝒱 (SparseCore.T d) none Set.univ (op := opTurn) (S := ucRefs τ sig) (Pipeline.sub_ucRefs _ (StableHlo.unary_bufs_sub ..)) (V := opGroup.result (opCut.result (W4 m hix d)))) $$ [Hb Hheld]
  · isplitl [Hb] <;> iassumption
  iintro ⟨Hb, Hheld⟩
  rw [wp_ret]; imodintro
  imodintro
  isplitl [Hst]; · iexact Hst
  isplitl [Hheld]; · iexact Hheld
  isplitl [Hb] <;> iassumption

end

end Cert.Proof.KI

end
-- ==== Proof.Run.lean ====
/-
  The program's run from any launch memory whose chosen indices name rows of the table: every unscoped array ends at
  what the host operations, the region and the call leave in it.
-/
module

public import proofs.«01_k».proof.Proof.Main

@[expose] public section

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf arrRefs ucRefs afterRegion)
open Idealize.ShloMosaic.StableHlo (held)
open Idealize.ShloMosaic.Rounds

local notation "𝕄" => MT nD τ sig (HIx 1) (Elt Ideal) ℕ UU ℕ

section
variable [Cert.KernelIdeal.Facts]

/-- The pipeline's part of the launch. -/
def up₀ : UP := initOf (Pipeline.cells (Pipeline.pin (pcfgs (F := Ideal)) adm) cellOf_inj) (Pipeline.launchToks (Pipeline.pin (pcfgs (F := Ideal)) adm) cellOf_inj)

/-- The ghost state at launch. -/
def u₀ : UU := (initOf (K (F := Ideal)).hsCells (K (F := Ideal)).hsToks, (up₀, 1))

variable (m : (ℓ : Loc nD τ sig) → Buf (Elt Ideal) ℓ) (ρ : Dev nD → PrngReg) (hix : InRange (ixOf m))

theorem hu₀ : (ownU u₀ : sProp 𝕄)
    ⊢ |={Set.univ}=> iprop(BI.own (EH (initOf (K (F := Ideal)).hsCells (K (F := Ideal)).hsToks)) ∗ (bigSep Finset.univ fun d : Dev nD => ghost d)
        ∗ bigSep Finset.univ fun thr : Thread nD τ => bigSep Finset.univ fun q : Fin 1 => (PM m hix).x q thr) := by
  unfold u₀
  iintro Hu
  ihave H := (ownU_pair (initOf (K (F := Ideal)).hsCells (K (F := Ideal)).hsToks) ((up₀, 1) : UP × Counters)) $$ Hu
  icases H with ⟨HH, HR⟩
  ihave H := (own_pair_emb (A := UP) (B := Counters) (M' := 𝕄) embR up₀ 1) $$ HR
  icases H with ⟨HP, -⟩
  unfold up₀
  imod (Pipeline.fund_ghost (Pipeline.pin (pcfgs (F := Ideal)) adm) EP cellOf_inj) $$ HP with ⟨Hg, Ht⟩
  imodintro
  isplitl [HH]; · iexact HH
  isplitl [Hg Ht]
  · rw [bigSep_sep']
    isplitl [Hg]
    · rw [show (bigSep Finset.univ fun d : Dev nD => Pipeline.cellsGhost (Pipeline.pin (pcfgs (F := Ideal)) adm) EP 0 d : sProp 𝕄)
        = bigSep Finset.univ fun d : Dev nD => bigSep Finset.univ fun p : Fin 1 => Pipeline.cellsGhost (Pipeline.pin (pcfgs (F := Ideal)) adm) EP p d from
        bigSep_congr fun d _ => (bigSep_univ_of_subsingleton (Φ := fun p : Fin 1 => (Pipeline.cellsGhost (Pipeline.pin (pcfgs (F := Ideal)) adm) EP p d : sProp 𝕄)) (0 : Fin 1)).symm]
      iexact Hg
    · rw [show (bigSep Finset.univ fun d : Dev nD => Pipeline.toksInit (Pipeline.pin (pcfgs (F := Ideal)) adm) EP 0 d : sProp 𝕄)
        = bigSep Finset.univ fun d : Dev nD => bigSep Finset.univ fun p : Fin 1 => Pipeline.toksInit (Pipeline.pin (pcfgs (F := Ideal)) adm) EP p d from
        bigSep_congr fun d _ => (bigSep_univ_of_subsingleton (Φ := fun p : Fin 1 => (Pipeline.toksInit (Pipeline.pin (pcfgs (F := Ideal)) adm) EP p d : sProp 𝕄)) (0 : Fin 1)).symm]
      iexact Ht
  rw [show (bigSep Finset.univ fun thr : Thread nD τ => bigSep Finset.univ fun q : Fin 1 => (PM m hix).x q thr) = (bigSep Finset.univ fun _ => iprop(emp) : sProp 𝕄) from
    bigSep_congr fun _ _ => bigSep_univ_of_subsingleton (0 : Fin 1), show (bigSep Finset.univ fun _ : Thread nD τ => iprop(emp) : sProp 𝕄) = iprop(emp) from bigSep_emp_const _]
  iempintro

/-- Every unscoped array at its last contents. -/
def fq (d : Dev nD) (s' : Phys nD τ sig (Elt Ideal)) : Prop := ∀ b : DevRef τ sig, b ∈ ucRefs τ sig → s'.mem.mem (d, b) = W5 m hix d b

theorem hfin (d : Dev nD) (s' : Phys nD τ sig (Elt Ideal)) : iprop(FIN m hix d ∗ SI s') ⊢ (⌜fq m hix d s'⌝ : sProp 𝕄) := by
  unfold fq
  refine BIBase.Entails.trans (Laws.forall_intro fun b => BIBase.Entails.trans (Laws.forall_intro fun hb => ?_) Laws.pure_forall.2) Laws.pure_forall.2
  unfold FIN
  rw [StableHlo.held_sub_split (T d) (Finset.singleton_subset_iff.mpr hb) (W5 m hix d)]
  unfold held
  rw [bigSep_singleton]
  iintro ⟨⟨Hb, -⟩, HSI⟩
  ihave H := (SI_pointsTo_agree (st := s') (ℓ := (d, b)) (I := Finset.univ) (q := fullShare) (f := W5 m hix d b)) $$ [HSI Hb]
  · isplitl [HSI] <;> iassumption
  icases H with %h
  ipureintro
  exact funext fun i => h i (Finset.mem_univ i)

/-- What the run ends in. -/
def QC : PUnit × MemSt nD τ sig (Elt Ideal) → Prop := fun r =>
  (∀ (d : Dev nD) (b : DevRef τ sig), b ∈ ucRefs τ sig → r.2.mem (d, b) = W5 m hix d b) ∧ r.2.sem = fun _ => 0

theorem run_main : θ_run (Cert.KernelIdeal.defs (F := Ideal)) (Cert.KernelIdeal.threads (F := Ideal)) ⟨m, fun _ => 0, ρ⟩ (QC m hix) :=
  SparseCore.Cfg.θ_run_sc_quiescent (K := K (F := Ideal)) (D := D (F := Ideal)) (𝒱 := 𝒱) (EH := EH) (P := PM m hix) (A := ∅) facts v₀
    (fun q hq => match q with | 0 => nomatch hq)
    (fun q _ => match q with | 0 => tileObl (tbOf m) (ixOf m) (ocOf m) hix facts)
    (fun q _ => match q with | 0 => SparseCore.Cfg.VecSplit.of_plain (vecSplit (tbOf m) (ixOf m) (ocOf m) hix))
    m ρ main ghost (FIN m hix) u₀ (sep_elim_left.trans (hu₀ m hix)) (hmain m ρ hix) (fq m hix) (hfin m hix) (QC m hix) (fun _ h hz => ⟨h, hz⟩)

end

end Cert.Proof.KI

end
-- ==== Proof.Values.lean ====
/-
  What the arrays hold after the region: the chosen indices, and the table of every point's coordinates.
-/
module

public import proofs.«01_k».proof.Proof.Run
public import Idealize.ShloMosaic.Lib.Pipeline.ValueKit
public import Idealize.ShloMosaic.Lib.Pointwise

@[expose] public section

noncomputable section

namespace Cert.Proof.KI

open Cert.KernelIdeal Cert.KernelIdeal.Gen

open Idealize.ShloMosaic Idealize.ShloMosaic.TcCoe Idealize.ShloMosaic.Tactic
open Idealize.ShloMosaic.Pipeline (Dat Cfg Window BodyObligation cellOf arrRefs ucRefs afterRegion)

section

theorem index0 : ∀ t : Fin cfg0.N, win0_0.index t = ![0, 0, t.val] := by decide +kernel
theorem index7 : ∀ t : Fin cfg0.N, win0_7.index t = ![t.val, 0] := by decide +kernel

theorem x0_apply (V : Vals) (c : Dev nD) (t : Fin cfg0.N) (b : Fin 8) (f : Fin 6) (q : Fin 2048) (h : 2048 * t.val + q.val < 16384) :
    x0 V c t (ix3 (n0 := 8) (n1 := 6) (n2 := 2048) b f q) = V c main_arg0 (ix3 (n0 := 8) (n1 := 6) (n2 := 16384) b f ⟨2048 * t.val + q.val, h⟩) := by
  unfold x0
  refine congrArg (V c main_arg0) (funext fun a => Fin.ext ?_)
  blk_simp [index0]
  match a with
  | ⟨0, _⟩ => show 0 * _ + b.val = b.val; omega
  | ⟨1, _⟩ => show 0 * _ + f.val = f.val; omega
  | ⟨2, _⟩ => show t.val * 2048 + q.val = 2048 * t.val + q.val; omega

theorem arr6 (V : Vals) (c : Dev nD) : (dat V c).arrAt 6 cfg0.N = chosen V c := by
  refine (dat V c).arrAt_eq_of_after_last 6 t0_7 (by decide +kernel) _ fun j => ?_
  blk_simp
  rfl

theorem pay23_apply (x : FVec Ideal S8x6x2048 .f32) (q : Fin 2048) (k : Fin 128) :
    k0_pay23 (F := Ideal) x (ix2 (n0 := 2048) (n1 := 128) q k)
      = if h : k.val < 48 then x (ix3 (n0 := 8) (n1 := 6) (n2 := 2048) ⟨k.val / 6, by omega⟩ ⟨k.val % 6, by omega⟩ q) else 0 := by
  pointwise [k0_pay23]

/-- The table: row `n` is point `n`'s coordinates in every batch, then zeros. -/
def table (V : Vals) (c : Dev nD) : FVec Ideal S16384x128 .f32 := fun i =>
  if h : (i 1).val < 48 then V c main_arg0 (ix3 (n0 := 8) (n1 := 6) (n2 := 16384) ⟨(i 1).val / 6, by omega⟩ ⟨(i 1).val % 6, by omega⟩ (i 0)) else 0

theorem arr7 (V : Vals) (c : Dev nD) : (dat V c).arrAt 7 cfg0.N = table V c := by
  refine (dat V c).arrAt_eq_of_covers 7 _ (by decide +kernel) fun t hf y => ?_
  blk_simp
  have ht : t.val < 8 := lt_of_lt_of_eq t.isLt N_0
  have e0 : ((win0_7.blk t).view.emb y 0).val = 2048 * t.val + (y 0).val := by
    blk_simp [index7]; omega
  have e1 : ((win0_7.blk t).view.emb y 1).val = (y 1).val := by
    blk_simp [index7]
  have hy : (show S2048x128.Idx from y) = ix2 (n0 := 2048) (n1 := 128) (y 0) (y 1) := funext fun a => match a with
    | ⟨0, _⟩ => rfl
    | ⟨1, _⟩ => rfl
  refine (show (dat V c).after 7 t y = k0_pay23 (F := Ideal) (x0 V c t) (show S2048x128.Idx from y) from rfl).trans ?_
  refine (congrArg (k0_pay23 (F := Ideal) (x0 V c t)) hy).trans ?_
  refine (pay23_apply (x0 V c t) (y 0) (y 1)).trans ?_
  unfold table
  have hy : (y 0).val < 2048 := (y 0).isLt
  by_cases h : (y 1).val < 48
  · rw [dif_pos h, dif_pos (e1.trans_lt h)]
    refine (x0_apply V c t ⟨(y 1).val / 6, by omega⟩ ⟨(y 1).val % 6, by omega⟩ (y 0) (by omega)).trans ?_
    refine congrArg (V c main_arg0) (funext fun a => Fin.ext ?_)
    match a with
    | ⟨0, _⟩ => show (y 1).val / 6 = _ / 6; rw [e1]
    | ⟨1, _⟩ => show (y 1).val % 6 = _ % 6; rw [e1]
    | ⟨2, _⟩ => exact e0.symm
  · rw [dif_neg h, dif_neg (fun h' => h (e1 ▸ h'))]

variable (m : (ℓ : Loc nD τ sig) → Buf (Elt Ideal) ℓ)

/-- The arrays at the region's entry. -/
abbrev V1 : Vals := valsOf (W1 m)

theorem after_unary (x y : Ref sig .tc) (f : x.ty.Contents (Elt Ideal) → y.ty.Contents (Elt Ideal)) (hx hy) (F : Valuation τ sig (Elt Ideal))
    (r : Ref sig .tc) (h : r ≠ y) : (StableHlo.unary (τ := τ) x y f hx hy).result F (Proc.devRef .tc r) = F (Proc.devRef .tc r) :=
  HloOp.result_of_not_mem _ F (fun h' => h (Proc.devRef_injective _ (Finset.mem_singleton.mp h')))

theorem after_reshape (x y : Ref sig .tc) (he hn hx hy) (F : Valuation τ sig (Elt Ideal))
    (r : Ref sig .tc) (h : r ≠ y) : (StableHlo.reshape (τ := τ) (Val := Elt Ideal) x y he hn hx hy).result F (Proc.devRef .tc r) = F (Proc.devRef .tc r) :=
  HloOp.result_of_not_mem _ F (fun h' => h (Proc.devRef_injective _ (Finset.mem_singleton.mp h')))

theorem V1_arg (d : Dev nD) (r : Ref sig .tc) (h0 : r ≠ main_v0) (h1 : r ≠ main_v1) (h2 : r ≠ main_v2) (h3 : r ≠ main_v3) (h4 : r ≠ main_v4) :
    V1 m d r = m (locOf d r) := by
  show W1 m d (Proc.devRef .tc r) = _
  unfold W1
  rw [after_unary _ _ _ _ _ _ r h4, after_unary _ _ _ _ _ _ r h3, after_unary _ _ _ _ _ _ r h2, after_unary _ _ _ _ _ _ r h1, after_unary _ _ _ _ _ _ r h0]
  rfl

theorem V1_v0 (d : Dev nD) : V1 m d main_v0 = transpose S256x6 [1, 0] (m (locOf d main_arg2)) transposes_S6x256_S256x6_1_0 := by
  show W1 m d (Proc.devRef .tc main_v0) = _
  unfold W1
  rw [after_unary _ _ _ _ _ _ main_v0 (by decide), after_unary _ _ _ _ _ _ main_v0 (by decide), after_unary _ _ _ _ _ _ main_v0 (by decide),
    after_unary _ _ _ _ _ _ main_v0 (by decide), StableHlo.unary_result]
  rfl
theorem V1_v1 (d : Dev nD) : V1 m d main_v1 = transpose S256x256 [1, 0] (m (locOf d main_arg4)) transposes_S256x256_S256x256_1_0 := by
  show W1 m d (Proc.devRef .tc main_v1) = _
  unfold W1
  rw [after_unary _ _ _ _ _ _ main_v1 (by decide), after_unary _ _ _ _ _ _ main_v1 (by decide), after_unary _ _ _ _ _ _ main_v1 (by decide),
    StableHlo.unary_result, after_unary _ _ _ _ _ _ main_arg4 (by decide)]
  rfl
theorem V1_v2 (d : Dev nD) : V1 m d main_v2 = transpose S1x256 [1, 0] (m (locOf d main_arg6)) transposes_S256x1_S1x256_1_0 := by
  show W1 m d (Proc.devRef .tc main_v2) = _
  unfold W1
  rw [after_unary _ _ _ _ _ _ main_v2 (by decide), after_unary _ _ _ _ _ _ main_v2 (by decide),
    StableHlo.unary_result, after_unary _ _ _ _ _ _ main_arg6 (by decide), after_unary _ _ _ _ _ _ main_arg6 (by decide)]
  rfl
theorem V1_v3 (d : Dev nD) : V1 m d main_v3 = broadcastInDim S256x1 ![0] bcast_S256_S256x1_0 (m (locOf d main_arg3)) := by
  show W1 m d (Proc.devRef .tc main_v3) = _
  unfold W1
  rw [after_unary _ _ _ _ _ _ main_v3 (by decide),
    StableHlo.unary_result, after_unary _ _ _ _ _ _ main_arg3 (by decide), after_unary _ _ _ _ _ _ main_arg3 (by decide),
    after_unary _ _ _ _ _ _ main_arg3 (by decide)]
  rfl
theorem V1_v4 (d : Dev nD) : V1 m d main_v4 = broadcastInDim S256x1 ![0] bcast_S256_S256x1_0 (m (locOf d main_arg5)) := by
  show W1 m d (Proc.devRef .tc main_v4) = _
  unfold W1
  rw [StableHlo.unary_result, after_unary _ _ _ _ _ _ main_arg5 (by decide), after_unary _ _ _ _ _ _ main_arg5 (by decide),
    after_unary _ _ _ _ _ _ main_arg5 (by decide), after_unary _ _ _ _ _ _ main_arg5 (by decide)]
  rfl

/-- The scores the kernel ranks. -/
abbrev scores (d : Dev nD) : Fin 16384 → EReal := score (V1 m) d

theorem W2_chosen (d : Dev nD) : W2 m d (Proc.devRef .tc main_v5_0) = chosen (V1 m) d :=
  (Pipeline.afterRegion_arr (dat (V1 m) d) (W1 m d) winFacts0.arr_inj 6).trans (arr6 (V1 m) d)
theorem W2_table (d : Dev nD) : W2 m d (Proc.devRef .tc main_v5_1) = table (V1 m) d :=
  (Pipeline.afterRegion_arr (dat (V1 m) d) (W1 m d) winFacts0.arr_inj 7).trans (arr7 (V1 m) d)

theorem W3_index (d : Dev nD) (j : Fin 256) : ixOf m d (ix1 (n0 := 256) j) = BitVec.ofNat 32 (sel (scores m d) j.val) := by
  show opFlat.result (W2 m d) (Proc.devRef .tc main_v6) _ = _
  rw [StableHlo.reshape_result, W2_chosen]
  show shapeCast S256 (chosen (V1 m) d) shapeCasts_S2x128_S256 (ix1 (n0 := 256) j) = _
  generalize hX : chosen (V1 m) d = X
  pointwise
  subst hX
  show BitVec.ofNat 32 (sel (scores m d) (128 * (j.val / 128) + j.val % 128)).val = _
  rw [Nat.div_add_mod]

theorem W3_table (d : Dev nD) : tbOf m d = table (V1 m) d := by
  show opFlat.result (W2 m d) (Proc.devRef .tc main_v5_1) = _
  rw [after_reshape _ _ _ _ _ _ _ main_v5_1 (by decide), W2_table]

theorem in_range : InRange (ixOf m) := fun d j => by
  have hj : j = ix1 (n0 := 256) (j 0) := funext fun a => match a with | ⟨0, _⟩ => rfl
  rw [(congrArg (ixOf m d) hj).trans (W3_index m d (j 0)), BitVec.toNat_ofNat]
  have := (sel (scores m d) (j 0).val).isLt
  omega

/-- The result the run leaves. -/
def result (d : Dev nD) : FVec Ideal S8x256x6 .f32 := fun i =>
  m (locOf d main_arg0) (ix3 (n0 := 8) (n1 := 6) (n2 := 16384) (i 0) (i 2) (sel (scores m d) (i 1).val))

theorem W5_result (d : Dev nD) : W5 m (in_range m) d (Proc.devRef .tc main_v10) = result m d := by
  unfold W5
  rw [StableHlo.unary_result, StableHlo.reshape_result, StableHlo.unary_result]
  rw [show W4 m (in_range m) d (Proc.devRef .tc main_v7) = gath (tbOf m) (ixOf m) (in_range m) d from Function.update_self _ _ _]
  generalize hX : gath (tbOf m) (ixOf m) (in_range m) d = X
  funext i
  obtain ⟨b, k, f, rfl⟩ : ∃ (b : Fin 8) (k : Fin 256) (f : Fin 6), i = ix3 b k f := ⟨i 0, i 1, i 2, funext fun a => match a with | ⟨0, _⟩ | ⟨1, _⟩ | ⟨2, _⟩ => rfl⟩
  show transpose S8x256x6 [1, 0, 2] (shapeCast S256x8x6 (extractStridedSlice S256x48 ![0, 0] X slices_S256x128_S256x48_0_0) shapeCasts_S256x48_S256x8x6)
    transposes_S256x8x6_S8x256x6_1_0_2 (ix3 b k f) = _
  pointwise
  subst hX
  have hk : (ixOf m d (ix1 (n0 := 256) k)).toNat = (sel (scores m d) k.val).val := by
    rw [W3_index, BitVec.toNat_ofNat]
    have := (sel (scores m d) k.val).isLt
    omega
  show tbOf m d (ix2 (n0 := 16384) (n1 := 128) ⟨(ixOf m d (ix1 (n0 := 256) k)).toNat, _⟩ ⟨b.val * 6 + f.val, _⟩) = _
  rw [W3_table]
  unfold table
  refine (dif_pos (show b.val * 6 + f.val < 48 by omega)).trans ?_
  refine (congrFun (V1_arg m d main_arg0 (by decide) (by decide) (by decide) (by decide) (by decide)) _).trans ?_
  refine congrArg (m (locOf d main_arg0)) (funext fun a => Fin.ext ?_)
  match a with
  | ⟨0, _⟩ => show (b.val * 6 + f.val) / 6 = b.val; omega
  | ⟨1, _⟩ => show (b.val * 6 + f.val) % 6 = f.val; omega
  | ⟨2, _⟩ => exact hk

theorem W5_arg (d : Dev nD) (r : Ref sig .tc) (h0 : r ≠ main_v0) (h1 : r ≠ main_v1) (h2 : r ≠ main_v2) (h3 : r ≠ main_v3) (h4 : r ≠ main_v4)
    (h6 : r ≠ main_v6) (h7 : r ≠ main_v7) (h8 : r ≠ main_v8) (h9 : r ≠ main_v9) (h10 : r ≠ main_v10) (h50 : r ≠ main_v5_0) (h51 : r ≠ main_v5_1) :
    W5 m (in_range m) d (Proc.devRef .tc r) = m (locOf d r) := by
  unfold W5
  rw [after_unary _ _ _ _ _ _ r h10, after_reshape _ _ _ _ _ _ _ r h9, after_unary _ _ _ _ _ _ r h8]
  unfold W4
  rw [Function.update_of_ne (fun h => h7 (Proc.devRef_injective _ h))]
  unfold W3
  rw [after_reshape _ _ _ _ _ _ _ r h6]
  refine (Pipeline.afterRegion_keeps (dat (V1 m) d) (W1 m d) winFacts0.arr_inj (fun _ => rfl) r fun w hw => ?_).trans (V1_arg m d r h0 h1 h2 h3 h4)
  match w with
  | ⟨0, _⟩ | ⟨1, _⟩ | ⟨2, _⟩ | ⟨3, _⟩ | ⟨4, _⟩ | ⟨5, _⟩ => rfl
  | ⟨6, _⟩ => exact absurd hw.symm h50
  | ⟨7, _⟩ => exact absurd hw.symm h51

end

end Cert.Proof.KI

end
-- ==== Proof.Frames.lean ====
/-
  The frames: both programs terminate, leave their arguments as they found them and every semaphore at zero.
-/
module

public import proofs.«01_k».proof.Proof.Values
public import proofs.«01_k».proof.Proof.Gen.ReferenceIdeal.Run
public import proofs.«01_k».proof.Defs
public import Idealize.ShloMosaic.Lib.StableHlo.RunHlo
public import Idealize.ShloMosaic.Lib.Quiescent

@[expose] public section

noncomputable section

namespace Cert.Proof

open Idealize.ShloMosaic Idealize.ShloMosaic.TcCoe Idealize.ShloMosaic.Tactic
open Idealize.SL Idealize.SL.Sem

namespace KI

open Cert.KernelIdeal Cert.KernelIdeal.Gen

theorem mem_uc (r : Ref sig .tc) (h : r.isScoped = false) : Proc.devRef .tc r ∈ Pipeline.ucRefs τ sig :=
  Finset.mem_filter.mpr ⟨StableHlo.devRef_mem_tcRefs _, fun h' => Bool.false_ne_true (h.symm.trans h')⟩

/-- The run, with the result and the arguments named. -/
theorem run (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩ (fun r =>
      (∀ c : Dev nD, r.2.mem ((c.tc : Thread nD τ).loc main_v10) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0) := by
  refine (θ_run _ _ _).mono (fun r h => ⟨fun c => ⟨?_, ?_, ?_, ?_, ?_, ?_, ?_, ?_, ?_⟩, h.2⟩) (run_main m g (in_range m))
  · exact (h.1 c _ (mem_uc main_v10 (by decide))).trans (W5_result m c)
  · exact (h.1 c _ (mem_uc main_arg0 (by decide))).trans (W5_arg m c main_arg0 (by decide) (by decide) (by decide) (by decide) (by decide) (by decide) (by decide) (by decide) (by decide) (by decide) (by decide) (by decide))
  · exact (h.1 c _ (mem_uc main_arg1 (by decide))).trans (W5_arg m c main_arg1 (by decide) (by decide) (by decide) (by decide) (by decide) (by decide) (by decide) (by decide) (by decide) (by decide) (by decide) (by decide))
  · exact (h.1 c _ (mem_uc main_arg2 (by decide))).trans (W5_arg m c main_arg2 (by decide) (by decide) (by decide) (by decide) (by decide) (by decide) (by decide) (by decide) (by decide) (by decide) (by decide) (by decide))
  · exact (h.1 c _ (mem_uc main_arg3 (by decide))).trans (W5_arg m c main_arg3 (by decide) (by decide) (by decide) (by decide) (by decide) (by decide) (by decide) (by decide) (by decide) (by decide) (by decide) (by decide))
  · exact (h.1 c _ (mem_uc main_arg4 (by decide))).trans (W5_arg m c main_arg4 (by decide) (by decide) (by decide) (by decide) (by decide) (by decide) (by decide) (by decide) (by decide) (by decide) (by decide) (by decide))
  · exact (h.1 c _ (mem_uc main_arg5 (by decide))).trans (W5_arg m c main_arg5 (by decide) (by decide) (by decide) (by decide) (by decide) (by decide) (by decide) (by decide) (by decide) (by decide) (by decide) (by decide))
  · exact (h.1 c _ (mem_uc main_arg6 (by decide))).trans (W5_arg m c main_arg6 (by decide) (by decide) (by decide) (by decide) (by decide) (by decide) (by decide) (by decide) (by decide) (by decide) (by decide) (by decide))
  · exact (h.1 c _ (mem_uc main_arg7 (by decide))).trans (W5_arg m c main_arg7 (by decide) (by decide) (by decide) (by decide) (by decide) (by decide) (by decide) (by decide) (by decide) (by decide) (by decide) (by decide))

end KI

theorem frame_kernel : Cert.quiescent_KernelIdeal := fun m g _ =>
  (θ_run _ _ _).mono (fun _ h => ⟨fun c => (h.1 c).2, h.2⟩) (KI.run m g)

theorem frame_reference : Cert.quiescent_ReferenceIdeal := fun m g _ =>
  θ_run_mono (Cert.ReferenceIdeal.Value.run (F := Ideal) m g) (fun r h => ⟨fun c => (h c).2, sem_eq_zero_of_no_sems (by decide) r.2⟩)

end Cert.Proof

end
-- ==== Proof.TopK.lean ====
/-
  Repeated selection of the first largest value, against a stable sort: as long as no value is the least element, the
  `k`-th selected index is the index a stable sort by "greater" puts at place `k`.
-/
module

public import proofs.«01_k».proof.Proof.Select
public import Idealize.ShloMosaic.Lib.SortPrefix
public import Idealize.ShloMosaic.Lib.SortFacts

@[expose] public section

noncomputable section

namespace Cert.Proof.KI

open Idealize.ShloMosaic

variable {s : Fin 16384 → EReal}

theorem masked_of_ne {k : ℕ} {p : Fin 16384} (h : ∀ j, j < k → sel s j ≠ p) : masked s k p = s p := by
  induction k with
  | zero => rfl
  | succ k ih =>
    rw [masked_succ, Function.update_of_ne (h k (Nat.lt_succ_self k)).symm]
    exact ih fun j hj => h j (hj.trans (Nat.lt_succ_self k))

theorem masked_sel {j k : ℕ} (h : j < k) : masked s k (sel s j) = ⊥ := by
  induction k with
  | zero => exact absurd h (Nat.not_lt_zero j)
  | succ k ih =>
    rw [masked_succ]
    by_cases e : sel s j = sel s k
    · rw [e, Function.update_self]
    · rw [Function.update_of_ne e]
      refine ih (lt_of_le_of_ne (Nat.lt_succ_iff.1 h) fun hjk => e (by rw [hjk]))

/-- Some index is not yet selected. -/
theorem exists_unselected {k : ℕ} (hk : k < 16384) : ∃ p : Fin 16384, ∀ j, j < k → sel s j ≠ p := by
  classical
  by_contra hne
  have hall : ∀ p : Fin 16384, ∃ j, j < k ∧ sel s j = p := by
    intro p
    by_contra hp
    exact hne ⟨p, fun j hj e => hp ⟨j, hj, e⟩⟩
  have hsub : (Finset.univ : Finset (Fin 16384)) ⊆ (Finset.range k).image (sel s) := fun p _ => by
    obtain ⟨j, hj, e⟩ := hall p
    exact Finset.mem_image.2 ⟨j, Finset.mem_range.2 hj, e⟩
  have h1 := Finset.card_le_card hsub
  have h2 := Finset.card_image_le (s := Finset.range k) (f := sel s)
  rw [Finset.card_univ, Fintype.card_fin] at h1
  rw [Finset.card_range] at h2
  omega

/-- A selected index is not one of those before it. -/
theorem sel_ne (hs : ∀ p, s p ≠ ⊥) {j k : ℕ} (hjk : j < k) (hk : k < 16384) : sel s j ≠ sel s k := by
  intro e
  obtain ⟨p, hp⟩ := exists_unselected (s := s) hk
  have h1 : masked s k p ≤ masked s k (sel s k) := (firstMax_spec (masked s k)).1 p
  rw [masked_of_ne hp, ← e, masked_sel hjk] at h1
  exact hs p (le_bot_iff.1 h1)

/-- `p` comes before `q`: its value is greater, or the same at a smaller index. -/
def before (f : Fin 16384 → EReal) (p q : Fin 16384) : Bool := decide (f q < f p) || (decide (f p = f q) && decide (p < q))

theorem before_strict (f : Fin 16384 → EReal) : StrictTotalBefore (before f) := by
  classical
  have h := StrictTotalBefore.of_key_then_position (n := 16384) (κ := EReal) (fun a b => decide (b < a)) f
    (fun a => decide_eq_false (lt_irrefl a))
    (fun a b c hab hbc => decide_eq_true ((of_decide_eq_true hbc).trans (of_decide_eq_true hab)))
    (fun a b => by
      rcases lt_trichotomy a b with h | h | h
      · exact .inr (.inr (decide_eq_true h))
      · exact .inr (.inl h)
      · exact .inl (decide_eq_true h))
  convert h using 3
  unfold before
  congr

/-- Nothing left unselected comes before what is selected next. -/
theorem not_before_sel (hs : ∀ p, s p ≠ ⊥) {k : ℕ} (hk : k < 16384) {p : Fin 16384} (hp : ∀ j, j < k → sel s j ≠ p) :
    before s p (sel s k) = false := by
  have h := firstMax_spec (masked s k)
  have hself : masked s k (sel s k) = s (sel s k) := masked_of_ne fun j hj => sel_ne hs hj hk
  have hle : s p ≤ s (sel s k) := by
    have := h.1 p
    rw [masked_of_ne hp] at this
    exact this.trans (le_of_eq hself)
  have hlt : p < sel s k → s p < s (sel s k) := fun hlt => by
    have := h.2 p hlt
    rw [masked_of_ne hp] at this
    exact this.trans_le (le_of_eq hself)
  unfold before
  rw [Bool.or_eq_false_iff, Bool.and_eq_false_iff]
  refine ⟨decide_eq_false (not_lt.2 hle), ?_⟩
  by_cases hpk : p < sel s k
  · exact .inl (decide_eq_false (ne_of_lt (hlt hpk)))
  · exact .inr (decide_eq_false hpk)

theorem sortedFrom_sel (hs : ∀ p, s p ≠ ⊥) (k : Fin 256) :
    sortedFrom (before s) (k.castLE (by omega)) = sel s k.val := by
  refine (before_strict s).sortedFrom_eq_of_prefix (k := 256) (by omega) (fun k => sel s k.val) ?_ ?_ ?_ k
  · intro i j e
    rcases lt_trichotomy i.val j.val with h | h | h
    · exact absurd e (sel_ne hs h (by omega))
    · exact Fin.ext h
    · exact absurd e.symm (sel_ne hs h (by omega))
  · intro i j hij
    exact not_before_sel hs (by omega) fun l hl => sel_ne hs (hl.trans (Fin.lt_def.1 hij)) (by omega)
  · intro i p hp
    exact not_before_sel hs (by omega) fun l hl => hp ⟨l, by omega⟩

/-- On a list in order, a stable sort never asks for the tie. -/
theorem stableSort_ties {n : ℕ} {R B : Fin n → Fin n → Bool} (h : ∀ a b, a < b → R b a = B b a) (l : List (Fin n))
    (hl : l.Pairwise (· < ·)) : stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.1 hb))

theorem sortedFrom_ties {n : ℕ} {R B : Fin n → Fin n → Bool} (h : ∀ a b, a < b → R b a = B b a) (k : Fin n) :
    sortedFrom R k = sortedFrom B k := by
  have he : sortPositions n R = sortPositions n B := stableSort_ties h _ (List.pairwise_lt_finRange n)
  unfold sortedFrom
  rw [List.get_of_eq he]
  rfl

/-- The place-`k` index of a stable sort by "greater" is the `k`-th selected one. -/
theorem sortedFrom_greater (hs : ∀ p, s p ≠ ⊥) {R : Fin 16384 → Fin 16384 → Bool} (hR : ∀ a b, R b a = decide (s a < s b))
    (k : Fin 256) : sortedFrom R (k.castLE (by omega)) = sel s k.val := by
  rw [sortedFrom_ties (B := before s) (fun a b hab => ?_), sortedFrom_sel hs]
  rw [hR]
  unfold before
  rw [decide_eq_false (not_lt.2 hab.le), Bool.and_false, Bool.or_false]

/-- The host's top-k of a line, its indices read off the sort. -/
theorem topK_line {n k : ℕ} (hk : k ≤ n) {α : Type} (gt : α → α → BitVec 1) (g : (⟨1, ![n]⟩ : Shape).Idx → α)
    (h : Shape.Slices (s := ⟨1, ![n]⟩) (fun _ => 0) ⟨1, ![k]⟩) (j : Fin k) :
    (Host.topK ⟨1, ![k]⟩ 0 gt g h).2 (ix1 j)
      = BitVec.ofNat 32 (sortedFrom (fun a b => gt (g (ix1 a)) (g (ix1 b)) == 1#1) (j.castLE hk)).val := by
  have hx : ∀ (hd : 0 < (⟨1, ![n]⟩ : Shape).rank) (i : (⟨1, ![n]⟩ : Shape).Idx) (a : Fin ((⟨1, ![n]⟩ : Shape).size ⟨0, hd⟩)),
      i.along ⟨0, hd⟩ a = ix1 (n0 := n) a := fun hd i a => (eq_ix1 _).trans (by congr 1)
  unfold Host.topK Host.sort2
  simp only [extractStridedSlice]
  rw [dif_pos (show 0 < (⟨1, ![n]⟩ : Shape).rank from Nat.one_pos)]
  dsimp only
  simp only [iotaInDim]
  rw [dif_pos Nat.one_pos]
  simp only [hx]
  refine congrArg (BitVec.ofNat 32) (congrArg Fin.val ?_)
  refine congrArg (sortedFrom _) (Fin.ext ?_)
  exact Nat.zero_add _

/-- The indices of the host's stable top-k, of values in the order of `s`, are the selected ones. -/
theorem topK_indices (hs : ∀ p, s p ≠ ⊥) (g : FVec Ideal ⟨1, ![16384]⟩ .f32)
    (hg : ∀ a b : Fin 16384, (g (ix1 a) : EReal) < g (ix1 b) ↔ s a < s b)
    (h : Shape.Slices (s := ⟨1, ![16384]⟩) (fun _ => 0) ⟨1, ![256]⟩) (k : Fin 256) :
    (Host.topK ⟨1, ![256]⟩ 0 (FloatOps.cmpfTotal .gt) g h).2 (ix1 k) = BitVec.ofNat 32 (sel s k.val).val := by
  rw [topK_line (by omega), sortedFrom_greater hs]
  intro a b
  rw [Ideal.cmpfTotal_def]
  simp only [CmpDirection.ordered, Ideal.cmp]
  by_cases hab : s a < s b
  · have := (hg a b).2 hab
    simp [hab, this]
  · have := mt (hg a b).1 hab
    simp [hab, this]

end Cert.Proof.KI

end
-- ==== Proof.Score.lean ====
/-
  The kernel's scores, in closed form: at each point, the sum over the batches of a three-layer network of the point's
  features.
-/
module

public import proofs.«01_k».proof.Proof.Values

@[expose] public section

noncomputable section

namespace Cert.Proof.KI

open Idealize.ShloMosaic Idealize.ShloMosaic.TcCoe Cert.KernelIdeal Cert.KernelIdeal.Gen

/-! ### The network -/

/-- The first layer: feature by feature, then the lower bound zero. -/
def hid1 (w1 : Fin 6 → Fin 256 → EReal) (b1 : Fin 256 → EReal) (x : Fin 6 → EReal) (i : Fin 256) : EReal :=
  max (∑ f, x f * w1 f i + b1 i) 0

/-- The second layer. -/
def hid2 (w2 : Fin 256 → Fin 256 → EReal) (b2 : Fin 256 → EReal) (h : Fin 256 → EReal) (j : Fin 256) : EReal :=
  max (∑ i, h i * w2 i j + b2 j) 0

/-- The network's one output, without its last bias. -/
def mlp (w1 : Fin 6 → Fin 256 → EReal) (b1 : Fin 256 → EReal) (w2 : Fin 256 → Fin 256 → EReal) (b2 : Fin 256 → EReal)
    (w3 : Fin 256 → EReal) (x : Fin 6 → EReal) : EReal :=
  ∑ j, hid2 w2 b2 (hid1 w1 b1 x) j * w3 j

/-! ### One batch of a block -/

/-- The first two layers of a batch's points, as the kernel takes them. -/
def layer1 (w1 : FVec Ideal S256x6 .f32) (b1 : FVec Ideal S256x1 .f32) (x : FVec Ideal S1x6x2048 .f32) : FVec Ideal S256x2048 .f32 :=
  maximumf (addf (matmul dot_S256x6_S6x2048_S256x2048_1_0_0_1_n_n none w1 (shapeCast S6x2048 x shapeCasts_S1x6x2048_S6x2048)
    (constant S256x2048 .f32 0x00000000#32)) (broadcastTo S256x2048 b1 broadcasts_S256x1_S256x2048))
    (broadcast S256x2048 (Scalar.ofBits .f32 0x00000000#32))

def layer2 (w2 : FVec Ideal S256x256 .f32) (b2 : FVec Ideal S256x1 .f32) (h : FVec Ideal S256x2048 .f32) : FVec Ideal S256x2048 .f32 :=
  maximumf (addf (matmul dot_S256x256_S256x2048_S256x2048_1_0_0_1_n_n none w2 h
    (constant S256x2048 .f32 0x00000000#32)) (broadcastTo S256x2048 b2 broadcasts_S256x1_S256x2048))
    (broadcast S256x2048 (Scalar.ofBits .f32 0x00000000#32))

def layer3 (w3 : FVec Ideal S1x256 .f32) (h : FVec Ideal S256x2048 .f32) : FVec Ideal S1x2048 .f32 :=
  matmul dot_S1x256_S256x2048_S1x2048_1_0_0_1_n_n none w3 h (constant S1x2048 .f32 0x00000000#32)

/-- A batch's share of a block's scores. -/
def one (w1 : FVec Ideal S256x6 .f32) (b1 : FVec Ideal S256x1 .f32) (w2 : FVec Ideal S256x256 .f32) (b2 : FVec Ideal S256x1 .f32)
    (w3 : FVec Ideal S1x256 .f32) (x : FVec Ideal S1x6x2048 .f32) : FVec Ideal S1x2048 .f32 :=
  layer3 w3 (layer2 w2 b2 (layer1 w1 b1 x))

theorem pay11_eq (w : FVec Ideal S256x6 .f32) : k0_pay11 (F := Ideal) w = w := shapeCast_self _ _
theorem pay12_eq (w : FVec Ideal S256x1 .f32) : k0_pay12 (F := Ideal) w = w := shapeCast_self _ _
theorem pay13_eq (w : FVec Ideal S256x256 .f32) : k0_pay13 (F := Ideal) w = w := shapeCast_self _ _
theorem pay14_eq (w : FVec Ideal S256x1 .f32) : k0_pay14 (F := Ideal) w = w := shapeCast_self _ _
theorem pay15_eq (w : FVec Ideal S1x256 .f32) : k0_pay15 (F := Ideal) w = w := shapeCast_self _ _

theorem scoreL_eq (w1 : FVec Ideal S256x6 .f32) (b1 : FVec Ideal S256x1 .f32) (w2 : FVec Ideal S256x256 .f32) (b2 : FVec Ideal S256x1 .f32)
    (w3 : FVec Ideal S1x256 .f32) (x : Fin 8 → FVec Ideal S1x6x2048 .f32) :
    scoreL w1 b1 w2 b2 w3 x
      = addf (addf (addf (addf (addf (addf (addf (addf (broadcast S1x2048 (Scalar.ofBits .f32 0x00000000#32)) (one w1 b1 w2 b2 w3 (x 0)))
          (one w1 b1 w2 b2 w3 (x 1))) (one w1 b1 w2 b2 w3 (x 2))) (one w1 b1 w2 b2 w3 (x 3))) (one w1 b1 w2 b2 w3 (x 4)))
          (one w1 b1 w2 b2 w3 (x 5))) (one w1 b1 w2 b2 w3 (x 6))) (one w1 b1 w2 b2 w3 (x 7)) := by
  unfold scoreL k0_pay22 k0_pay21 k0_pay20 k0_pay19 k0_pay18 k0_pay17 k0_pay16
  rw [pay11_eq, pay12_eq, pay13_eq, pay14_eq, pay15_eq]
  rfl

theorem layer1_apply (w1 : FVec Ideal S256x6 .f32) (b1 : FVec Ideal S256x1 .f32) (x : FVec Ideal S1x6x2048 .f32) (i : Fin 256) (q : Fin 2048) :
    layer1 w1 b1 x (ix2 i q) = hid1 (fun f i => w1 (ix2 i f)) (fun i => b1 (ix2 i 0)) (fun f => x (ix3 0 f q)) i := by
  unfold hid1
  simp only [mul_comm (x _)]
  pointwise [layer1]

theorem layer2_apply (w2 : FVec Ideal S256x256 .f32) (b2 : FVec Ideal S256x1 .f32) (h : FVec Ideal S256x2048 .f32) (j : Fin 256) (q : Fin 2048) :
    layer2 w2 b2 h (ix2 j q) = hid2 (fun i j => w2 (ix2 j i)) (fun j => b2 (ix2 j 0)) (fun i => h (ix2 i q)) j := by
  unfold hid2
  simp only [mul_comm (h _)]
  pointwise [layer2]

theorem layer3_apply (w3 : FVec Ideal S1x256 .f32) (h : FVec Ideal S256x2048 .f32) (q : Fin 2048) :
    layer3 w3 h (ix2 0 q) = ∑ j : Fin 256, (h (ix2 j q) : EReal) * w3 (ix2 0 j) := by
  simp only [mul_comm (h _)]
  pointwise [layer3]

theorem one_apply (w1 : FVec Ideal S256x6 .f32) (b1 : FVec Ideal S256x1 .f32) (w2 : FVec Ideal S256x256 .f32) (b2 : FVec Ideal S256x1 .f32)
    (w3 : FVec Ideal S1x256 .f32) (x : FVec Ideal S1x6x2048 .f32) (q : Fin 2048) :
    one w1 b1 w2 b2 w3 x (ix2 0 q)
      = mlp (fun f i => w1 (ix2 i f)) (fun i => b1 (ix2 i 0)) (fun i j => w2 (ix2 j i)) (fun j => b2 (ix2 j 0)) (fun j => w3 (ix2 0 j))
          (fun f => x (ix3 0 f q)) := by
  unfold one mlp
  rw [layer3_apply]
  refine Finset.sum_congr rfl fun j _ => ?_
  rw [layer2_apply]
  simp only [layer1_apply]

end Cert.Proof.KI

end
-- ==== Proof.Network.lean ====
/-
  The kernel's scores over the arrays the program is given: the network of each point, summed over the batches.
-/
module

public import proofs.«01_k».proof.Proof.Score

@[expose] public section

noncomputable section

namespace Cert.Proof.KI

open Cert.KernelIdeal Cert.KernelIdeal.Gen

open Idealize.ShloMosaic Idealize.ShloMosaic.TcCoe Idealize.ShloMosaic.Tactic
open Idealize.ShloMosaic.Pipeline (Dat Cfg Window BodyObligation cellOf arrRefs ucRefs afterRegion)

theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel

theorem x1_eq (V : Vals) (c : Dev nD) (t : Fin cfg0.N) : x1 V c t = V c main_v0 := by
  unfold x1
  funext i
  refine congrArg (V c main_v0) (funext fun a => Fin.ext ?_)
  blk_simp [index1]
  match a with
  | ⟨0, _⟩ => show 0 * _ + (i 0).val = (i 0).val; omega
  | ⟨1, _⟩ => show 0 * _ + (i 1).val = (i 1).val; omega

theorem x2_eq (V : Vals) (c : Dev nD) (t : Fin cfg0.N) : x2 V c t = V c main_v3 := by
  unfold x2
  funext i
  refine congrArg (V c main_v3) (funext fun a => Fin.ext ?_)
  blk_simp [index2]
  match a with
  | ⟨0, _⟩ => show 0 * _ + (i 0).val = (i 0).val; omega
  | ⟨1, _⟩ => show 0 * _ + (i 1).val = (i 1).val; omega

theorem x3_eq (V : Vals) (c : Dev nD) (t : Fin cfg0.N) : x3 V c t = V c main_v1 := by
  unfold x3
  funext i
  refine congrArg (V c main_v1) (funext fun a => Fin.ext ?_)
  blk_simp [index3]
  match a with
  | ⟨0, _⟩ => show 0 * _ + (i 0).val = (i 0).val; omega
  | ⟨1, _⟩ => show 0 * _ + (i 1).val = (i 1).val; omega

theorem x4_eq (V : Vals) (c : Dev nD) (t : Fin cfg0.N) : x4 V c t = V c main_v4 := by
  unfold x4
  funext i
  refine congrArg (V c main_v4) (funext fun a => Fin.ext ?_)
  blk_simp [index4]
  match a with
  | ⟨0, _⟩ => show 0 * _ + (i 0).val = (i 0).val; omega
  | ⟨1, _⟩ => show 0 * _ + (i 1).val = (i 1).val; omega

theorem x5_eq (V : Vals) (c : Dev nD) (t : Fin cfg0.N) : x5 V c t = V c main_v2 := by
  unfold x5
  funext i
  refine congrArg (V c main_v2) (funext fun a => Fin.ext ?_)
  blk_simp [index5]
  match a with
  | ⟨0, _⟩ => show 0 * _ + (i 0).val = (i 0).val; omega
  | ⟨1, _⟩ => show 0 * _ + (i 1).val = (i 1).val; omega

/-- The network of the arrays given, at point `n` of batch `b`. -/
def net (A0 : FVec Ideal S8x6x16384 .f32) (A2 : FVec Ideal S6x256 .f32) (A3 : FVec Ideal S256 .f32) (A4 : FVec Ideal S256x256 .f32)
    (A5 : FVec Ideal S256 .f32) (A6 : FVec Ideal S256x1 .f32) (b : Fin 8) (n : Fin 16384) : EReal :=
  mlp (fun f i => A2 (ix2 f i)) (fun i => A3 (ix1 i)) (fun i j => A4 (ix2 i j)) (fun j => A5 (ix1 j)) (fun j => A6 (ix2 j 0))
    (fun f => A0 (ix3 b f n))

theorem scoreBlk_apply (X : FVec Ideal S8x6x2048 .f32) (w1 : FVec Ideal S256x6 .f32) (b1 : FVec Ideal S256x1 .f32) (w2 : FVec Ideal S256x256 .f32)
    (b2 : FVec Ideal S256x1 .f32) (w3 : FVec Ideal S1x256 .f32) (q : Fin 2048) :
    scoreBlk X w1 b1 w2 b2 w3 (ix2 0 q)
      = ∑ b : Fin 8, mlp (fun f i => w1 (ix2 i f)) (fun i => b1 (ix2 i 0)) (fun i j => w2 (ix2 j i)) (fun j => b2 (ix2 j 0))
          (fun j => w3 (ix2 0 j)) (fun f => X (ix3 b f q)) := by
  have h : ∀ b, (mlp (fun f i => w1 (ix2 i f)) (fun i => b1 (ix2 i 0)) (fun i j => w2 (ix2 j i)) (fun j => b2 (ix2 j 0))
          (fun j => w3 (ix2 0 j)) (fun f => X (ix3 b f q))) = one w1 b1 w2 b2 w3 (bat X b) (ix2 0 q) := fun b =>
    (one_apply w1 b1 w2 b2 w3 (bat X b) q).symm
  simp only [h]
  unfold scoreBlk
  rw [scoreL_eq, Fin.sum_univ_eight]
  generalize one w1 b1 w2 b2 w3 (bat X 0) = y0
  generalize one w1 b1 w2 b2 w3 (bat X 1) = y1
  generalize one w1 b1 w2 b2 w3 (bat X 2) = y2
  generalize one w1 b1 w2 b2 w3 (bat X 3) = y3
  generalize one w1 b1 w2 b2 w3 (bat X 4) = y4
  generalize one w1 b1 w2 b2 w3 (bat X 5) = y5
  generalize one w1 b1 w2 b2 w3 (bat X 6) = y6
  generalize one w1 b1 w2 b2 w3 (bat X 7) = y7
  show Ideal.ofBits .f32 0x00000000#32 + (y0 (ix2 0 q) : EReal) + y1 (ix2 0 q) + y2 (ix2 0 q) + y3 (ix2 0 q) + y4 (ix2 0 q) + y5 (ix2 0 q)
      + y6 (ix2 0 q) + y7 (ix2 0 q) = _
  rw [Ideal.ofBits_zero_f32, zero_add]

theorem tr2 (A : FVec Ideal S6x256 .f32) (i : Fin 256) (f : Fin 6) :
    transpose S256x6 [1, 0] A transposes_S6x256_S256x6_1_0 (ix2 i f) = A (ix2 f i) := by pointwise
theorem tr4 (A : FVec Ideal S256x256 .f32) (i j : Fin 256) :
    transpose S256x256 [1, 0] A transposes_S256x256_S256x256_1_0 (ix2 j i) = A (ix2 i j) := by pointwise
theorem tr6 (A : FVec Ideal S256x1 .f32) (j : Fin 256) :
    transpose S1x256 [1, 0] A transposes_S256x1_S1x256_1_0 (ix2 0 j) = A (ix2 j 0) := by pointwise
theorem col (A : FVec Ideal S256 .f32) (i : Fin 256) :
    broadcastInDim S256x1 ![0] bcast_S256_S256x1_0 A (ix2 i 0) = A (ix1 i) := by pointwise

variable (m : (ℓ : Loc nD τ sig) → Buf (Elt Ideal) ℓ)

/-- The kernel's score of point `n`. -/
theorem scores_apply (d : Dev nD) (n : Fin 16384) :
    scores m d n = ∑ b : Fin 8, net (m (locOf d main_arg0)) (m (locOf d main_arg2)) (m (locOf d main_arg3)) (m (locOf d main_arg4))
      (m (locOf d main_arg5)) (m (locOf d main_arg6)) b n := by
  unfold scores score scoreAt
  rw [scoreBlk_apply, x1_eq, x2_eq, x3_eq, x4_eq, x5_eq, V1_v0, V1_v1, V1_v2, V1_v3, V1_v4]
  refine Finset.sum_congr rfl fun b _ => ?_
  unfold net
  have hx : ∀ f : Fin 6, x0 (V1 m) d ⟨n.val / 2048, lt_of_lt_of_eq (by omega) N_0.symm⟩
      (ix3 (n0 := 8) (n1 := 6) (n2 := 2048) b f ⟨n.val % 2048, Nat.mod_lt _ (by omega)⟩) = m (locOf d main_arg0) (ix3 (n0 := 8) (n1 := 6) (n2 := 16384) b f n) := fun f => by
    rw [x0_apply (V1 m) d _ b f _ (by show 2048 * (n.val / 2048) + n.val % 2048 < 16384; omega),
      V1_arg m d main_arg0 (by decide) (by decide) (by decide) (by decide) (by decide)]
    congr 2
    exact Fin.ext (Nat.div_add_mod _ _)
  simp only [hx]
  congr 1
  · exact funext fun f => funext fun i => tr2 (m (locOf d main_arg2)) i f
  · exact funext fun i => col (m (locOf d main_arg3)) i
  · exact funext fun i => funext fun j => tr4 (m (locOf d main_arg4)) i j
  · exact funext fun j => col (m (locOf d main_arg5)) j
  · exact funext fun j => tr6 (m (locOf d main_arg6)) j

end Cert.Proof.KI

end
-- ==== Proof.RefScore.lean ====
/-
  The reference's mean scores, in closed form.
-/
module

public import proofs.«01_k».proof.Proof.Network
public import proofs.«01_k».proof.Proof.Gen.ReferenceIdeal.Run

@[expose] public section

noncomputable section

namespace Cert.Proof.RI

open Idealize.ShloMosaic Idealize.ShloMosaic.TcCoe Cert.ReferenceIdeal Cert.ReferenceIdeal.Gen
open Cert.Proof.KI (hid1 hid2 mlp net)

/-- The first two layers, as the reference takes them. -/
def layer1 (A0 : FVec Ideal S8x6x16384 .f32) (A2 : FVec Ideal S6x256 .f32) (A3 : FVec Ideal S256 .f32) : FVec Ideal S8x16384x256 .f32 :=
  maximumf (addf (Host.dotGeneral dot_S8x16384x6_S6x256_S8x16384x256_2_0_01_1_n_n none
      (transpose S8x16384x6 [0, 2, 1] A0 transposes_S8x6x16384_S8x16384x6_0_2_1) A2)
    (broadcastInDim S8x16384x256 ![0, 1, 2] bcast_S1x1x256_S8x16384x256_0_1_2 (broadcastInDim S1x1x256 ![2] bcast_S256_S1x1x256_2 A3)))
    (broadcastInDim S8x16384x256 ![] bcast_S_S8x16384x256 (constant S_ .f32 0x00000000#32))

def layer2 (H : FVec Ideal S8x16384x256 .f32) (A4 : FVec Ideal S256x256 .f32) (A5 : FVec Ideal S256 .f32) : FVec Ideal S8x16384x256 .f32 :=
  maximumf (addf (Host.dotGeneral dot_S8x16384x256_S256x256_S8x16384x256_2_0_01_1_n_n none H A4)
    (broadcastInDim S8x16384x256 ![0, 1, 2] bcast_S1x1x256_S8x16384x256_0_1_2 (broadcastInDim S1x1x256 ![2] bcast_S256_S1x1x256_2 A5)))
    (broadcastInDim S8x16384x256 ![] bcast_S_S8x16384x256 (constant S_ .f32 0x00000000#32))

def layer3 (H : FVec Ideal S8x16384x256 .f32) (A6 : FVec Ideal S256x1 .f32) (A7 : FVec Ideal S1 .f32) : FVec Ideal S8x16384x1 .f32 :=
  addf (Host.dotGeneral dot_S8x16384x256_S256x1_S8x16384x1_2_0_01_1_n_n none H A6)
    (broadcastInDim S8x16384x1 ![0, 1, 2] bcast_S1x1x1_S8x16384x1_0_1_2 (broadcastInDim S1x1x1 ![2] bcast_S1_S1x1x1_2 A7))

/-- The mean over the batches. -/
def mean (Y : FVec Ideal S8x16384x1 .f32) : FVec Ideal S16384 .f32 :=
  Host.divf (Host.reduceAdd (shapeCast S8x16384 Y shapeCasts_S8x16384x1_S8x16384) (constant S_ .f32 0x00000000#32) reducesTo_S8x16384_S16384_d0 h_S_)
    (broadcastInDim S16384 ![] bcast_S_S16384 (constant S_ .f32 0x41000000#32))

theorem layer1_apply (A0 : FVec Ideal S8x6x16384 .f32) (A2 : FVec Ideal S6x256 .f32) (A3 : FVec Ideal S256 .f32) (b : Fin 8) (n : Fin 16384)
    (i : Fin 256) : layer1 A0 A2 A3 (ix3 b n i) = hid1 (fun f i => A2 (ix2 f i)) (fun i => A3 (ix1 i)) (fun f => A0 (ix3 b f n)) i := by
  unfold hid1
  pointwise [layer1]

theorem layer2_apply (H : FVec Ideal S8x16384x256 .f32) (A4 : FVec Ideal S256x256 .f32) (A5 : FVec Ideal S256 .f32) (b : Fin 8) (n : Fin 16384)
    (j : Fin 256) : layer2 H A4 A5 (ix3 b n j) = hid2 (fun i j => A4 (ix2 i j)) (fun j => A5 (ix1 j)) (fun i => H (ix3 b n i)) j := by
  unfold hid2
  pointwise [layer2]

theorem layer3_apply (H : FVec Ideal S8x16384x256 .f32) (A6 : FVec Ideal S256x1 .f32) (A7 : FVec Ideal S1 .f32) (b : Fin 8) (n : Fin 16384) :
    layer3 H A6 A7 (ix3 b n 0) = (∑ j : Fin 256, (H (ix3 b n j) : EReal) * A6 (ix2 j 0)) + A7 (ix1 0) := by
  pointwise [layer3]

theorem mean_apply (Y : FVec Ideal S8x16384x1 .f32) (n : Fin 16384) :
    mean Y (ix1 n) = Ideal.div (∑ b : Fin 8, (Y (ix3 b n 0) : EReal)) (Ideal.ofBits .f32 0x41000000#32) := by
  pointwise [mean]

/-- The reference's mean scores. -/
def means (A0 : FVec Ideal S8x6x16384 .f32) (A2 : FVec Ideal S6x256 .f32) (A3 : FVec Ideal S256 .f32) (A4 : FVec Ideal S256x256 .f32)
    (A5 : FVec Ideal S256 .f32) (A6 : FVec Ideal S256x1 .f32) (A7 : FVec Ideal S1 .f32) : FVec Ideal S16384 .f32 :=
  mean (layer3 (layer2 (layer1 A0 A2 A3) A4 A5) A6 A7)

theorem means_apply (A0 : FVec Ideal S8x6x16384 .f32) (A2 : FVec Ideal S6x256 .f32) (A3 : FVec Ideal S256 .f32) (A4 : FVec Ideal S256x256 .f32)
    (A5 : FVec Ideal S256 .f32) (A6 : FVec Ideal S256x1 .f32) (A7 : FVec Ideal S1 .f32) (n : Fin 16384) :
    means A0 A2 A3 A4 A5 A6 A7 (ix1 n)
      = Ideal.div (∑ b : Fin 8, (net A0 A2 A3 A4 A5 A6 b n + A7 (ix1 0))) (Ideal.ofBits .f32 0x41000000#32) := by
  unfold means
  rw [mean_apply]
  congr 1
  refine Finset.sum_congr rfl fun b _ => ?_
  rw [layer3_apply]
  unfold net mlp
  congr 1
  refine Finset.sum_congr rfl fun j _ => ?_
  rw [layer2_apply]
  simp only [layer1_apply]

end Cert.Proof.RI

end
-- ==== Proof.RefValue.lean ====
/-
  The reference's gather: the points at the indices it is given.
-/
module

public import proofs.«01_k».proof.Proof.RefScore

@[expose] public section

noncomputable section

namespace Cert.Proof.RI

open Idealize.ShloMosaic Idealize.ShloMosaic.TcCoe Cert.ReferenceIdeal Cert.ReferenceIdeal.Gen

/-- A negative index is counted from the end. -/
def fixed (I : IVec S256 32) : IVec S256 32 :=
  select (cmpi .slt I (broadcastInDim S256 ![] bcast_S_S256 (constantI S_ 32 0#32)))
    (addi I (broadcastInDim S256 ![] bcast_S_S256 (constantI S_ 32 16384#32))) I

theorem fixed_apply (I : IVec S256 32) (k : Fin 256) (p : Fin 16384) (h : I (ix1 k) = BitVec.ofNat 32 p.val) :
    fixed I (ix1 k) = BitVec.ofNat 32 p.val := by
  have hp : ¬ (BitVec.ofNat 32 p.val).slt 0#32 = true := by
    rw [BitVec.slt]
    have h1 : (BitVec.ofNat 32 p.val).toInt = p.val := by
      have := p.isLt
      rw [BitVec.toInt_eq_toNat_cond, BitVec.toNat_ofNat]
      have h2 : p.val % 2 ^ 32 = p.val := Nat.mod_eq_of_lt (by omega)
      rw [h2, if_pos (by omega)]
    rw [h1]
    simp
  show (if IntOp.cmpi .slt (I (ix1 k)) 0#32 = 1 then _ else I (ix1 k)) = _
  rw [h, if_neg]
  simp [IntOp.cmpi, hp]

/-- The gathered points, columns last. -/
def gathered (A0 : FVec Ideal S8x6x16384 .f32) (I : IVec S256 32) : FVec Ideal S8x256x6 .f32 :=
  transpose S8x256x6 [0, 2, 1] (Host.gather gather_S8x6x16384_S256x1_S8x6x256_01_2_n_n_2_1_861 A0
    (broadcastInDim S256x1 ![0] bcast_S256_S256x1_0 I)) transposes_S8x6x256_S8x256x6_0_2_1

theorem gather_apply (A0 : FVec Ideal S8x6x16384 .f32) (I : IVec S256x1 32) (b : Fin 8) (f : Fin 6) (k : Fin 256) (p : Fin 16384)
    (h : I (ix2 k 0) = BitVec.ofNat 32 p.val) :
    Host.gather gather_S8x6x16384_S256x1_S8x6x256_01_2_n_n_2_1_861 A0 I (ix3 b f k) = A0 (ix3 b f p) := by
  unfold Host.gather
  congr 1
  funext a
  apply Fin.ext
  match a with
  | ⟨0, _⟩ =>
    show 0 + 0 + b.val = b.val
    omega
  | ⟨1, _⟩ =>
    show 0 + 0 + f.val = f.val
    omega
  | ⟨2, _⟩ =>
    have e : ∀ i : S256x1.Idx, i = ix2 k 0 → (I i).toInt.toNat = p.val := fun i hi => by
      subst hi
      have := p.isLt
      rw [h, BitVec.toInt_eq_toNat_cond, BitVec.toNat_ofNat]
      have h2 : p.val % 2 ^ 32 = p.val := Nat.mod_eq_of_lt (by omega)
      rw [h2, if_pos (by omega)]
      rfl
    show min (I (GatherDims.siIdx _ _ _)).toInt.toNat 16383 + 0 + 0 = p.val
    rw [e _ (by
      funext b
      apply Fin.ext
      match b with
      | ⟨0, _⟩ => rfl
      | ⟨1, _⟩ => rfl)]
    have := p.isLt
    omega

theorem gathered_apply (A0 : FVec Ideal S8x6x16384 .f32) (I : IVec S256 32) (b : Fin 8) (f : Fin 6) (k : Fin 256) (p : Fin 16384)
    (h : I (ix1 k) = BitVec.ofNat 32 p.val) : gathered A0 (fixed I) (ix3 b k f) = A0 (ix3 b f p) := by
  have e := gather_apply A0 (broadcastInDim S256x1 ![0] bcast_S256_S256x1_0 (fixed I)) b f k p (by
    rw [← fixed_apply I k p h]
    pointwise [])
  rw [← e]
  pointwise [gathered]

end Cert.Proof.RI

end
-- ==== Proof.Real.lean ====
/-
  Real values: the network of real arrays is real, and adding one real to every batch's score and dividing by eight
  keeps the order of the sums.
-/
module

public import proofs.«01_k».proof.Proof.Network
public import proofs.«01_k».proof.Proof.RefScore

@[expose] public section

noncomputable section

namespace Cert.Proof

open Idealize.ShloMosaic
open Cert.Proof.KI (hid1 hid2 mlp net)

/-- A value that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max_zero {x : EReal} (hx : IsReal x) : IsReal (max x 0) := by
  rcases le_total x 0 with h | h
  · rw [max_eq_right h]; exact ⟨0, rfl⟩
  · rw [max_eq_left h]; exact hx

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem IsReal.ne_bot {x : EReal} (h : IsReal x) : x ≠ ⊥ := by
  obtain ⟨a, rfl⟩ := h
  exact EReal.coe_ne_bot a

theorem mlp_real {w1 : Fin 6 → Fin 256 → EReal} {b1 : Fin 256 → EReal} {w2 : Fin 256 → Fin 256 → EReal} {b2 w3 : Fin 256 → EReal}
    {x : Fin 6 → EReal} (h1 : ∀ f i, IsReal (w1 f i)) (hb1 : ∀ i, IsReal (b1 i)) (h2 : ∀ i j, IsReal (w2 i j)) (hb2 : ∀ j, IsReal (b2 j))
    (h3 : ∀ j, IsReal (w3 j)) (hx : ∀ f, IsReal (x f)) : IsReal (mlp w1 b1 w2 b2 w3 x) := by
  have hh1 : ∀ i, IsReal (hid1 w1 b1 x i) := fun i =>
    ((IsReal.sum _ fun f => (hx f).mul (h1 f i)).add (hb1 i)).max_zero
  have hh2 : ∀ j, IsReal (hid2 w2 b2 (hid1 w1 b1 x) j) := fun j =>
    ((IsReal.sum _ fun i => (hh1 i).mul (h2 i j)).add (hb2 j)).max_zero
  exact IsReal.sum _ fun j => (hh2 j).mul (h3 j)

theorem eight : Ideal.ofBits .f32 0x41000000#32 = ((8 : ℝ) : EReal) := by
  simp [Ideal.ofBits, Ideal.ieee, -EReal.coe_mul]; norm_num

/-- The mean of eight shifted reals is in the order of their sums. -/
theorem mean_lt {f g : Fin 8 → EReal} {c : EReal} (hf : ∀ b, IsReal (f b)) (hg : ∀ b, IsReal (g b)) (hc : IsReal c) :
    Ideal.div (∑ b, (f b + c)) (Ideal.ofBits .f32 0x41000000#32) < Ideal.div (∑ b, (g b + c)) (Ideal.ofBits .f32 0x41000000#32)
      ↔ ∑ b, f b < ∑ b, g b := by
  choose f' hf' using hf
  choose g' hg' using hg
  obtain ⟨c', rfl⟩ := hc
  obtain rfl : f = fun b => (f' b : EReal) := funext hf'
  obtain rfl : g = fun b => (g' b : EReal) := funext hg'
  have hsum : ∀ h : Fin 8 → ℝ, ∑ b, (h b : EReal) = ((∑ b, h b : ℝ) : EReal) := fun h => by
    simp only [Fin.sum_univ_eight, EReal.coe_add]
  rw [eight, Ideal.div_coe (by norm_num), Ideal.div_coe (by norm_num)]
  simp only [← EReal.coe_add, hsum, ← EReal.coe_mul, EReal.coe_lt_coe_iff]
  rw [Finset.sum_add_distrib, Finset.sum_add_distrib]
  constructor <;> intro h <;> linarith

end Cert.Proof

end
-- ==== Proof.Finite.lean ====
/-
  What the precondition says of the arrays: every entry is a real number.
-/
module

public import proofs.«01_k».proof.Proof.Real
public import proofs.«01_k».proof.Proof.Gen.Pre_finite
public import Idealize.ShloMosaic.Lib.ReduceAll

@[expose] public section

noncomputable section

namespace Cert.Proof

open Idealize.ShloMosaic Cert.Pre_finite Cert.Pre_finite.Gen

/-- A magnitude below the pattern of +∞ is that of a real number. -/
theorem real_of_abs_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x using EReal.rec with
  | bot => simp at hlt
  | top => simp at hlt
  | coe r => exact ⟨r, rfl⟩

theorem scalar_subsingleton : Subsingleton S_.Idx := ⟨fun a b => funext fun i => i.elim0⟩

/-- One array's clause. -/
theorem entries_real {s : Shape} {axes : List (Fin s.rank)} (x : FVec Ideal s .f32) (hb : S_.BroadcastsInDim s (![] : Fin 0 → Fin s.rank))
    (v : IVec S_ 1) (hr : s.ReducesTo axes S_) (hu : 0 < S_.numel) (j : S_.Idx)
    (e : Host.reduce IntOp.andi (cmpf .olt (Host.absf x) (broadcastInDim s ![] hb (constant S_ .f32 0x7F800000#32))) v hr hu j = 1#1)
    (i : s.Idx) : IsReal (x i) :=
  haveI := scalar_subsingleton
  real_of_abs_lt (Host.reduce_andi_all _ v hr hu j e i)

/-- The precondition at the arrays of one device. -/
theorem finite_real (A0 A1 : FVec Ideal S8x6x16384 .f32) (A2 : FVec Ideal S6x256 .f32) (A3 : FVec Ideal S256 .f32)
    (A4 : FVec Ideal S256x256 .f32) (A5 : FVec Ideal S256 .f32) (A6 : FVec Ideal S256x1 .f32) (A7 : FVec Ideal S1 .f32)
    (h : Cert.Pre_finite.fn (F := Ideal) A0 A1 A2 A3 A4 A5 A6 A7 = fun _ => 1#1) :
    (∀ i, IsReal (A0 i)) ∧ (∀ i, IsReal (A2 i)) ∧ (∀ i, IsReal (A3 i)) ∧ (∀ i, IsReal (A4 i)) ∧ (∀ i, IsReal (A5 i))
      ∧ (∀ i, IsReal (A6 i)) ∧ (∀ i, IsReal (A7 i)) := by
  have e := congrFun h (Shape.Idx.first h_S_)
  unfold Cert.Pre_finite.fn fn_part1 at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨entries_real A0 _ _ _ _ _ h0, entries_real A2 _ _ _ _ _ h2, entries_real A3 _ _ _ _ _ h3, entries_real A4 _ _ _ _ _ h4,
    entries_real A5 _ _ _ _ _ h5, entries_real A6 _ _ _ _ _ h6, entries_real A7 _ _ _ _ _ h7⟩

end Cert.Proof

end
-- ==== Proof.Algebraic.lean ====
/-
  The value claim: on finite arrays the kernel and the reference gather the same points.
-/
module

public import proofs.«01_k».proof.Proof.Frames
public import proofs.«01_k».proof.Proof.TopK
public import proofs.«01_k».proof.Proof.RefValue
public import proofs.«01_k».proof.Proof.Finite

@[expose] public section

noncomputable section

namespace Cert.Proof

open Idealize.ShloMosaic Idealize.ShloMosaic.TcCoe
open Idealize.SL Idealize.SL.Sem
open Cert.Proof.KI (net mlp sel topK_indices)

/-- The reference's indices. -/
def RI.picks (A0 : FVec Ideal Cert.ReferenceIdeal.S8x6x16384 .f32) (A2 : FVec Ideal Cert.ReferenceIdeal.S6x256 .f32)
    (A3 : FVec Ideal Cert.ReferenceIdeal.S256 .f32) (A4 : FVec Ideal Cert.ReferenceIdeal.S256x256 .f32)
    (A5 : FVec Ideal Cert.ReferenceIdeal.S256 .f32) (A6 : FVec Ideal Cert.ReferenceIdeal.S256x1 .f32)
    (A7 : FVec Ideal Cert.ReferenceIdeal.S1 .f32) : IVec Cert.ReferenceIdeal.S256 32 :=
  (Host.topK Cert.ReferenceIdeal.S256 0 (FloatOps.cmpfTotal .gt) (RI.means A0 A2 A3 A4 A5 A6 A7)
    Cert.ReferenceIdeal.Gen.sliceFits_S16384_S256).2

/-- The reference's value, by its arrays. -/
theorem reference_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v28 m c
      = RI.gathered (m (c.tc.loc Cert.ReferenceIdeal.main_arg0)) (RI.fixed (RI.picks (m (c.tc.loc Cert.ReferenceIdeal.main_arg0))
          (m (c.tc.loc Cert.ReferenceIdeal.main_arg2)) (m (c.tc.loc Cert.ReferenceIdeal.main_arg3))
          (m (c.tc.loc Cert.ReferenceIdeal.main_arg4)) (m (c.tc.loc Cert.ReferenceIdeal.main_arg5))
          (m (c.tc.loc Cert.ReferenceIdeal.main_arg6)) (m (c.tc.loc Cert.ReferenceIdeal.main_arg7)))) := rfl

/-- On real arrays the reference's indices are those the kernel selects. -/
theorem picks_apply (A0 : FVec Ideal Cert.ReferenceIdeal.S8x6x16384 .f32) (A2 : FVec Ideal Cert.ReferenceIdeal.S6x256 .f32)
    (A3 : FVec Ideal Cert.ReferenceIdeal.S256 .f32) (A4 : FVec Ideal Cert.ReferenceIdeal.S256x256 .f32)
    (A5 : FVec Ideal Cert.ReferenceIdeal.S256 .f32) (A6 : FVec Ideal Cert.ReferenceIdeal.S256x1 .f32)
    (A7 : FVec Ideal Cert.ReferenceIdeal.S1 .f32) (h0 : ∀ i, IsReal (A0 i)) (h2 : ∀ i, IsReal (A2 i)) (h3 : ∀ i, IsReal (A3 i))
    (h4 : ∀ i, IsReal (A4 i)) (h5 : ∀ i, IsReal (A5 i)) (h6 : ∀ i, IsReal (A6 i)) (h7 : ∀ i, IsReal (A7 i))
    (s : Fin 16384 → EReal) (hs : ∀ n, s n = ∑ b : Fin 8, net A0 A2 A3 A4 A5 A6 b n) (k : Fin 256) :
    RI.picks A0 A2 A3 A4 A5 A6 A7 (ix1 k) = BitVec.ofNat 32 (sel s k.val).val := by
  have hnet : ∀ b n, IsReal (net A0 A2 A3 A4 A5 A6 b n) := fun b n =>
    mlp_real (fun _ _ => h2 _) (fun _ => h3 _) (fun _ _ => h4 _) (fun _ => h5 _) (fun _ => h6 _) (fun _ => h0 _)
  refine topK_indices (fun p => ?_) _ (fun a b => ?_) _ k
  · rw [hs]
    exact (IsReal.sum _ fun b => hnet b p).ne_bot
  · rw [RI.means_apply, RI.means_apply, hs, hs]
    exact mean_lt (fun b' => hnet b' a) (fun b' => hnet b' b) (h7 _)

/-- On finite arrays the two results are one. -/
theorem same_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v28 m' c = KI.result m c := by
  obtain ⟨h0, h2, h3, h4, h5, h6, h7⟩ := finite_real _ _ _ _ _ _ _ _ (hpre c)
  refine (reference_value m' c).trans ?_
  rw [e0, e2, e3, e4, e5, e6, e7]
  funext i
  obtain ⟨b, k, f, rfl⟩ : ∃ (b : Fin 8) (k : Fin 256) (f : Fin 6), i = ix3 b k f := ⟨i 0, i 1, i 2, funext fun a => match a with | ⟨0, _⟩ | ⟨1, _⟩ | ⟨2, _⟩ => rfl⟩
  exact RI.gathered_apply _ _ b f k _ (picks_apply _ _ _ _ _ _ _ h0 h2 h3 h4 h5 h6 h7 (KI.scores m c) (fun n => KI.scores_apply m c n) k)

theorem algebraic : Cert.algebraic_KernelIdeal_ReferenceIdeal_pre_finite := by
  intro m g m' g' hpre hagree
  refine ⟨KI.result m, (θ_run _ _ _).mono (fun _ h => h.1) (KI.run m g),
    θ_run_mono (Cert.ReferenceIdeal.Value.run (F := Ideal) m' g') (fun r h c => ⟨(h c).1.trans ?_, (h c).2⟩)⟩
  obtain ⟨e0, -, e2, e3, e4, e5, e6, e7⟩ := hagree c
  exact same_value m m' hpre c e0 e2 e3 e4 e5 e6 e7

theorem frame_kernel_finite : Cert.quiescent_KernelIdeal_pre_finite := fun m g _ => frame_kernel m g trivial

theorem frame_reference_finite : Cert.quiescent_ReferenceIdeal_pre_finite := fun m g _ => frame_reference m g trivial

end Cert.Proof

end
-- ==== Proof.lean ====
/-
  The claim, assembled: the frames, and the kernel's values against the reference's.
-/
module

public import proofs.«01_k».proof.Proof.Algebraic
public import proofs.«01_k».proof.Defs

@[expose] public section

/-- The certificate's claim. -/
theorem Cert.Proof.claim : Cert.Claim :=
  ⟨Cert.KernelIdeal.Gen.facts, Cert.ReferenceIdeal.Gen.facts, Cert.Pre_finite.Gen.facts, Cert.Proof.frame_kernel,
    Cert.Proof.frame_kernel_finite, Cert.Proof.frame_reference, Cert.Proof.frame_reference_finite, Cert.Proof.algebraic⟩

end
